-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S8192x4096 : Shape := ⟨2, ![8192, 4096]⟩
abbrev S16x16 : Shape := ⟨2, ![16, 16]⟩
abbrev S_ : Shape := ⟨0, ![]⟩
abbrev S1x16 : Shape := ⟨2, ![1, 16]⟩
abbrev S16 : Shape := ⟨1, ![16]⟩
abbrev S512x4096 : Shape := ⟨2, ![512, 4096]⟩
abbrev S16x512x512 : Shape := ⟨3, ![16, 512, 512]⟩
abbrev S2x512x4096 : Shape := ⟨3, ![2, 512, 4096]⟩
abbrev S15 : Shape := ⟨1, ![15]⟩
abbrev S2 : Shape := ⟨1, ![2]⟩
abbrev S1 : Shape := ⟨1, ![1]⟩
abbrev S512x512 : Shape := ⟨2, ![512, 512]⟩
abbrev S1x512x512 : Shape := ⟨3, ![1, 512, 512]⟩
abbrev S1x512x4096 : Shape := ⟨3, ![1, 512, 4096]⟩

abbrev nBuf : Space → Nat
  | .hbm => 25
  | .vmem => 5
  | .smem => 1
  | _ => 0

abbrev bufTy : (tb : Table) → Fin (tcTables nBuf tb) → BufTy
  | .hbm, ⟨0, _⟩ => ⟨S8192x512, .bf16⟩
  | .hbm, ⟨1, _⟩ => ⟨S8192x4096, .bf16⟩
  | .hbm, ⟨2, _⟩ => ⟨S16x16, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x16, .i32⟩
  | .hbm, ⟨23, _⟩ => ⟨S16, .i32⟩
  | .hbm, ⟨24, _⟩ => ⟨S512x4096, .f32⟩
  | .local _ .vmem, ⟨0, _⟩ => ⟨S8192x512, .bf16⟩
  | .local _ .vmem, ⟨1, _⟩ => ⟨S512x4096, .f32⟩
  | .local _ .vmem, ⟨2, _⟩ => ⟨S8192x512, .bf16⟩
  | .local _ .vmem, ⟨3, _⟩ => ⟨S16x512x512, .bf16⟩
  | .local _ .vmem, ⟨4, _⟩ => ⟨S2x512x4096, .bf16⟩
  | .local _ .smem, ⟨0, _⟩ => ⟨S16, .i32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_c_5 : Ref sig .tc := ⟨.hbm, 15, rfl⟩
abbrev main_v8 : Ref sig .tc := ⟨.hbm, 16, rfl⟩
abbrev main_c_6 : Ref sig .tc := ⟨.hbm, 17, rfl⟩
abbrev main_c_7 : Ref sig .tc := ⟨.hbm, 18, rfl⟩
abbrev main_v9 : Ref sig .tc := ⟨.hbm, 19, rfl⟩
abbrev main_c_8 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (v64 : BitVec 32) : Fin 2 → Nat :=
  let c512_i32 : BitVec 32 := 512#32
  let v65 : BitVec 32 := Scalar.muli v64 c512_i32
  let v66 : Index := Scalar.indexCast v65
  let c0 : Index := 0#32
  ![v66.toNat, 0]

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_65 : BitVec 32 := 0#32
  let c0_i32_66 : BitVec 32 := 0#32
  ![v2.toNat, 0, 0]
def k0_off4 (v64 : BitVec 32) : Fin 2 → Nat :=
  let c512_i32 : BitVec 32 := 512#32
  let v65 : BitVec 32 := Scalar.muli v64 c512_i32
  let c0_i32_67 : BitVec 32 := 0#32
  ![v65.toNat, 0]
def k0_dev16 (v64 : BitVec 32) : Nat :=
  let c0_i32_64 : BitVec 32 := 0#32
  let c1_i32_63 : BitVec 32 := 1#32
  let v73 : BitVec 32 := Scalar.muli v64 c1_i32_63
  let v74 : BitVec 32 := Scalar.addi c0_i32_64 v73
  v74.toNat
def k0_off5 (v82 : BitVec 32) : Fin 2 → Nat :=
  let c512_i32_68 : BitVec 32 := 512#32
  let v83 : BitVec 32 := Scalar.muli v82 c512_i32_68
  let v84 : Index := Scalar.indexCast v83
  let c0_69 : Index := 0#32
  ![v84.toNat, 0]

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_74 : BitVec 32 := 0#32
  let c0_i32_75 : BitVec 32 := 0#32
  ![v2.toNat, 0, 0]
def k0_off8 (v82 : BitVec 32) : Fin 2 → Nat :=
  let c512_i32_68 : BitVec 32 := 512#32
  let v83 : BitVec 32 := Scalar.muli v82 c512_i32_68
  let c0_i32_76 : BitVec 32 := 0#32
  ![v83.toNat, 0]
def k0_dev17 (v82 : BitVec 32) : Nat :=
  let c0_i32_73 : BitVec 32 := 0#32
  let c1_i32_72 : BitVec 32 := 1#32
  let v91 : BitVec 32 := Scalar.muli v82 c1_i32_72
  let v92 : BitVec 32 := Scalar.addi c0_i32_73 v91
  v92.toNat
def k0_off9 (v100 : BitVec 32) : Fin 2 → Nat :=
  let c512_i32_77 : BitVec 32 := 512#32
  let v101 : BitVec 32 := Scalar.muli v100 c512_i32_77
  let v102 : Index := Scalar.indexCast v101
  let c0_78 : Index := 0#32
  ![v102.toNat, 0]

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let c0_i32_84 : BitVec 32 := 0#32
  ![v2.toNat, 0, 0]
def k0_off12 (v100 : BitVec 32) : Fin 2 → Nat :=
  let c512_i32_77 : BitVec 32 := 512#32
  let v101 : BitVec 32 := Scalar.muli v100 c512_i32_77
  let c0_i32_85 : BitVec 32 := 0#32
  ![v101.toNat, 0]
def k0_dev18 (v100 : BitVec 32) : Nat :=
  let c0_i32_82 : BitVec 32 := 0#32
  let c1_i32_81 : BitVec 32 := 1#32
  let v109 : BitVec 32 := Scalar.muli v100 c1_i32_81
  let v110 : BitVec 32 := Scalar.addi c0_i32_82 v109
  v110.toNat
def k0_off13 (v118 : BitVec 32) : Fin 2 → Nat :=
  let c512_i32_86 : BitVec 32 := 512#32
  let v119 : BitVec 32 := Scalar.muli v118 c512_i32_86
  let v120 : Index := Scalar.indexCast v119
  let c0_87 : Index := 0#32
  ![v120.toNat, 0]

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_92 : BitVec 32 := 0#32
  let c0_i32_93 : BitVec 32 := 0#32
  ![v2.toNat, 0, 0]
def k0_off16 (v118 : BitVec 32) : Fin 2 → Nat :=
  let c512_i32_86 : BitVec 32 := 512#32
  let v119 : BitVec 32 := Scalar.muli v118 c512_i32_86
  let c0_i32_94 : BitVec 32 := 0#32
  ![v119.toNat, 0]
def k0_dev19 (v118 : BitVec 32) : Nat :=
  let c0_i32_91 : BitVec 32 := 0#32
  let c1_i32_90 : BitVec 32 := 1#32
  let v127 : BitVec 32 := Scalar.muli v118 c1_i32_90
  let v128 : BitVec 32 := Scalar.addi c0_i32_91 v127
  v128.toNat
def k0_off17 (v136 : BitVec 32) : Fin 2 → Nat :=
  let c512_i32_95 : BitVec 32 := 512#32
  let v137 : BitVec 32 := Scalar.muli v136 c512_i32_95
  let v138 : Index := Scalar.indexCast v137
  let c0_96 : Index := 0#32
  ![v138.toNat, 0]

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_101 : BitVec 32 := 0#32
  let c0_i32_102 : BitVec 32 := 0#32
  ![v2.toNat, 0, 0]
def k0_off20 (v136 : BitVec 32) : Fin 2 → Nat :=
  let c512_i32_95 : BitVec 32 := 512#32
  let v137 : BitVec 32 := Scalar.muli v136 c512_i32_95
  let c0_i32_103 : BitVec 32 := 0#32
  ![v137.toNat, 0]
def k0_dev20 (v136 : BitVec 32) : Nat :=
  let c0_i32_100 : BitVec 32 := 0#32
  let c1_i32_99 : BitVec 32 := 1#32
  let v145 : BitVec 32 := Scalar.muli v136 c1_i32_99
  let v146 : BitVec 32 := Scalar.addi c0_i32_100 v145
  v146.toNat
def k0_off21 (v154 : BitVec 32) : Fin 2 → Nat :=
  let c512_i32_104 : BitVec 32 := 512#32
  let v155 : BitVec 32 := Scalar.muli v154 c512_i32_104
  let v156 : Index := Scalar.indexCast v155
  let c0_105 : Index := 0#32
  ![v156.toNat, 0]

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_110 : BitVec 32 := 0#32
  let c0_i32_111 : BitVec 32 := 0#32
  ![v2.toNat, 0, 0]
def k0_off24 (v154 : BitVec 32) : Fin 2 → Nat :=
  let c512_i32_104 : BitVec 32 := 512#32
  let v155 : BitVec 32 := Scalar.muli v154 c512_i32_104
  let c0_i32_112 : BitVec 32 := 0#32
  ![v155.toNat, 0]
def k0_dev21 (v154 : BitVec 32) : Nat :=
  let c0_i32_109 : BitVec 32 := 0#32
  let c1_i32_108 : BitVec 32 := 1#32
  let v163 : BitVec 32 := Scalar.muli v154 c1_i32_108
  let v164 : BitVec 32 := Scalar.addi c0_i32_109 v163
  v164.toNat
def k0_off25 (v172 : BitVec 32) : Fin 2 → Nat :=
  let c512_i32_113 : BitVec 32 := 512#32
  let v173 : BitVec 32 := Scalar.muli v172 c512_i32_113
  let v174 : Index := Scalar.indexCast v173
  let c0_114 : Index := 0#32
  ![v174.toNat, 0]

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_119 : BitVec 32 := 0#32
  let c0_i32_120 : BitVec 32 := 0#32
  ![v2.toNat, 0, 0]
def k0_off28 (v172 : BitVec 32) : Fin 2 → Nat :=
  let c512_i32_113 : BitVec 32 := 512#32
  let v173 : BitVec 32 := Scalar.muli v172 c512_i32_113
  let c0_i32_121 : BitVec 32 := 0#32
  ![v173.toNat, 0]
def k0_dev22 (v172 : BitVec 32) : Nat :=
  let c0_i32_118 : BitVec 32 := 0#32
  let c1_i32_117 : BitVec 32 := 1#32
  let v181 : BitVec 32 := Scalar.muli v172 c1_i32_117
  let v182 : BitVec 32 := Scalar.addi c0_i32_118 v181
  v182.toNat
def k0_off29 (v190 : BitVec 32) : Fin 2 → Nat :=
  let c512_i32_122 : BitVec 32 := 512#32
  let v191 : BitVec 32 := Scalar.muli v190 c512_i32_122
  let v192 : Index := Scalar.indexCast v191
  let c0_123 : Index := 0#32
  ![v192.toNat, 0]

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_off32 (v190 : BitVec 32) : Fin 2 → Nat :=
  let c512_i32_122 : BitVec 32 := 512#32
  let v191 : BitVec 32 := Scalar.muli v190 c512_i32_122
  let c0_i32_130 : BitVec 32 := 0#32
  ![v191.toNat, 0]
def k0_dev23 (v190 : BitVec 32) : Nat :=
  let c0_i32_127 : BitVec 32 := 0#32
  let c1_i32_126 : BitVec 32 := 1#32
  let v199 : BitVec 32 := Scalar.muli v190 c1_i32_126
  let v200 : BitVec 32 := Scalar.addi c0_i32_127 v199
  v200.toNat
def k0_off33 (v208 : BitVec 32) : Fin 2 → Nat :=
  let c512_i32_131 : BitVec 32 := 512#32
  let v209 : BitVec 32 := Scalar.muli v208 c512_i32_131
  let v210 : Index := Scalar.indexCast v209
  let c0_132 : Index := 0#32
  ![v210.toNat, 0]

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_137 : BitVec 32 := 0#32
  let c0_i32_138 : BitVec 32 := 0#32
  ![v2.toNat, 0, 0]
def k0_off36 (v208 : BitVec 32) : Fin 2 → Nat :=
  let c512_i32_131 : BitVec 32 := 512#32
  let v209 : BitVec 32 := Scalar.muli v208 c512_i32_131
  let c0_i32_139 : BitVec 32 := 0#32
  ![v209.toNat, 0]
def k0_dev24 (v208 : BitVec 32) : Nat :=
  let c0_i32_136 : BitVec 32 := 0#32
  let c1_i32_135 : BitVec 32 := 1#32
  let v217 : BitVec 32 := Scalar.muli v208 c1_i32_135
  let v218 : BitVec 32 := Scalar.addi c0_i32_136 v217
  v218.toNat
def k0_off37 (v226 : BitVec 32) : Fin 2 → Nat :=
  let c512_i32_140 : BitVec 32 := 512#32
  let v227 : BitVec 32 := Scalar.muli v226 c512_i32_140
  let v228 : Index := Scalar.indexCast v227
  let c0_141 : Index := 0#32
  ![v228.toNat, 0]

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_146 : BitVec 32 := 0#32
  let c0_i32_147 : BitVec 32 := 0#32
  ![v2.toNat, 0, 0]
def k0_off40 (v226 : BitVec 32) : Fin 2 → Nat :=
  let c512_i32_140 : BitVec 32 := 512#32
  let v227 : BitVec 32 := Scalar.muli v226 c512_i32_140
  let c0_i32_148 : BitVec 32 := 0#32
  ![v227.toNat, 0]
def k0_dev25 (v226 : BitVec 32) : Nat :=
  let c0_i32_145 : BitVec 32 := 0#32
  let c1_i32_144 : BitVec 32 := 1#32
  let v235 : BitVec 32 := Scalar.muli v226 c1_i32_144
  let v236 : BitVec 32 := Scalar.addi c0_i32_145 v235
  v236.toNat
def k0_off41 (v244 : BitVec 32) : Fin 2 → Nat :=
  let c512_i32_149 : BitVec 32 := 512#32
  let v245 : BitVec 32 := Scalar.muli v244 c512_i32_149
  let v246 : Index := Scalar.indexCast v245
  let c0_150 : Index := 0#32
  ![v246.toNat, 0]

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_155 : BitVec 32 := 0#32
  let c0_i32_156 : BitVec 32 := 0#32
  ![v2.toNat, 0, 0]
def k0_off44 (v244 : BitVec 32) : Fin 2 → Nat :=
  let c512_i32_149 : BitVec 32 := 512#32
  let v245 : BitVec 32 := Scalar.muli v244 c512_i32_149
  let c0_i32_157 : BitVec 32 := 0#32
  ![v245.toNat, 0]
def k0_dev26 (v244 : BitVec 32) : Nat :=
  let c0_i32_154 : BitVec 32 := 0#32
  let c1_i32_153 : BitVec 32 := 1#32
  let v253 : BitVec 32 := Scalar.muli v244 c1_i32_153
  let v254 : BitVec 32 := Scalar.addi c0_i32_154 v253
  v254.toNat
def k0_off45 (v262 : BitVec 32) : Fin 2 → Nat :=
  let c512_i32_158 : BitVec 32 := 512#32
  let v263 : BitVec 32 := Scalar.muli v262 c512_i32_158
  let v264 : Index := Scalar.indexCast v263
  let c0_159 : Index := 0#32
  ![v264.toNat, 0]

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_off48 (v262 : BitVec 32) : Fin 2 → Nat :=
  let c512_i32_158 : BitVec 32 := 512#32
  let v263 : BitVec 32 := Scalar.muli v262 c512_i32_158
  let c0_i32_166 : BitVec 32 := 0#32
  ![v263.toNat, 0]
def k0_dev27 (v262 : BitVec 32) : Nat :=
  let c0_i32_163 : BitVec 32 := 0#32
  let c1_i32_162 : BitVec 32 := 1#32
  let v271 : BitVec 32 := Scalar.muli v262 c1_i32_162
  let v272 : BitVec 32 := Scalar.addi c0_i32_163 v271
  v272.toNat
def k0_off49 (v280 : BitVec 32) : Fin 2 → Nat :=
  let c512_i32_167 : BitVec 32 := 512#32
  let v281 : BitVec 32 := Scalar.muli v280 c512_i32_167
  let v282 : Index := Scalar.indexCast v281
  let c0_168 : Index := 0#32
  ![v282.toNat, 0]

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_173 : BitVec 32 := 0#32
  let c0_i32_174 : BitVec 32 := 0#32
  ![v2.toNat, 0, 0]
def k0_off52 (v280 : BitVec 32) : Fin 2 → Nat :=
  let c512_i32_167 : BitVec 32 := 512#32
  let v281 : BitVec 32 := Scalar.muli v280 c512_i32_167
  let c0_i32_175 : BitVec 32 := 0#32
  ![v281.toNat, 0]
def k0_dev28 (v280 : BitVec 32) : Nat :=
  let c0_i32_172 : BitVec 32 := 0#32
  let c1_i32_171 : BitVec 32 := 1#32
  let v289 : BitVec 32 := Scalar.muli v280 c1_i32_171
  let v290 : BitVec 32 := Scalar.addi c0_i32_172 v289
  v290.toNat
def k0_off53 (v298 : BitVec 32) : Fin 2 → Nat :=
  let c512_i32_176 : BitVec 32 := 512#32
  let v299 : BitVec 32 := Scalar.muli v298 c512_i32_176
  let v300 : Index := Scalar.indexCast v299
  let c0_177 : Index := 0#32
  ![v300.toNat, 0]

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_182 : BitVec 32 := 0#32
  let c0_i32_183 : BitVec 32 := 0#32
  ![v2.toNat, 0, 0]
def k0_off56 (v298 : BitVec 32) : Fin 2 → Nat :=
  let c512_i32_176 : BitVec 32 := 512#32
  let v299 : BitVec 32 := Scalar.muli v298 c512_i32_176
  let c0_i32_184 : BitVec 32 := 0#32
  ![v299.toNat, 0]
def k0_dev29 (v298 : BitVec 32) : Nat :=
  let c0_i32_181 : BitVec 32 := 0#32
  let c1_i32_180 : BitVec 32 := 1#32
  let v307 : BitVec 32 := Scalar.muli v298 c1_i32_180
  let v308 : BitVec 32 := Scalar.addi c0_i32_181 v307
  v308.toNat
def k0_off57 (v316 : BitVec 32) : Fin 2 → Nat :=
  let c512_i32_185 : BitVec 32 := 512#32
  let v317 : BitVec 32 := Scalar.muli v316 c512_i32_185
  let v318 : Index := Scalar.indexCast v317
  let c0_186 : Index := 0#32
  ![v318.toNat, 0]

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_off60 (v316 : BitVec 32) : Fin 2 → Nat :=
  let c512_i32_185 : BitVec 32 := 512#32
  let v317 : BitVec 32 := Scalar.muli v316 c512_i32_185
  let c0_i32_193 : BitVec 32 := 0#32
  ![v317.toNat, 0]
def k0_dev30 (v316 : BitVec 32) : Nat :=
  let c0_i32_190 : BitVec 32 := 0#32
  let c1_i32_189 : BitVec 32 := 1#32
  let v325 : BitVec 32 := Scalar.muli v316 c1_i32_189
  let v326 : BitVec 32 := Scalar.addi c0_i32_190 v325
  v326.toNat
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_194 : BitVec 32 := 512#32
  let v334 : BitVec 32 := Scalar.muli v2 c512_i32_194
  let v335 : Index := Scalar.indexCast v334
  let c0_195 : Index := 0#32
  ![v335.toNat, 0]
def k0_off62 (v342 : BitVec 32) : Fin 2 → Nat :=
  let c512_i32_198 : BitVec 32 := 512#32
  let v343 : BitVec 32 := Scalar.muli v342 c512_i32_198
  let c0_i32_203 : BitVec 32 := 0#32
  ![v343.toNat, 0]

def k0_chk16 (v342 : BitVec 32) : Prop :=
  (∀ a, (k0_off62 v342) a + S512x4096.size a ≤ S8192x4096.size a) ∧
  (∀ (hinb : ∀ a, (k0_off62 v342) a + S512x4096.size a ≤ S8192x4096.size a), (Rect.unit (s := S8192x4096) (k0_off62 v342) S512x4096.size hinb).WholeWords (EltTy.packing .bf16))
theorem k0_off62_inb : ∀ (v342 : BitVec 32) (k0_hw16 : k0_chk16 v342), ∀ a, (k0_off62 v342) a + S512x4096.size a ≤ S8192x4096.size a := fun v342 k0_hw16 => k0_hw16.1
theorem k0_off62_wordsbf16 : ∀ (v342 : BitVec 32) (k0_hw16 : k0_chk16 v342), (Rect.unit (s := S8192x4096) (k0_off62 v342) S512x4096.size (k0_off62_inb v342 k0_hw16)).WholeWords (EltTy.packing .bf16) := fun v342 k0_hw16 => k0_hw16.2 (k0_off62_inb v342 k0_hw16)

def k0_off63 (v350 : BitVec 32) : Fin 2 → Nat :=
  let c512_i32_206 : BitVec 32 := 512#32
  let v351 : BitVec 32 := Scalar.muli v350 c512_i32_206
  let c0_i32_211 : BitVec 32 := 0#32
  ![v351.toNat, 0]

def k0_chk17 (v350 : BitVec 32) : Prop :=
  (∀ a, (k0_off63 v350) a + S512x4096.size a ≤ S8192x4096.size a) ∧
  (∀ (hinb : ∀ a, (k0_off63 v350) a + S512x4096.size a ≤ S8192x4096.size a), (Rect.unit (s := S8192x4096) (k0_off63 v350) S512x4096.size hinb).WholeWords (EltTy.packing .bf16))
theorem k0_off63_inb : ∀ (v350 : BitVec 32) (k0_hw17 : k0_chk17 v350), ∀ a, (k0_off63 v350) a + S512x4096.size a ≤ S8192x4096.size a := fun v350 k0_hw17 => k0_hw17.1
theorem k0_off63_wordsbf16 : ∀ (v350 : BitVec 32) (k0_hw17 : k0_chk17 v350), (Rect.unit (s := S8192x4096) (k0_off63 v350) S512x4096.size (k0_off63_inb v350 k0_hw17)).WholeWords (EltTy.packing .bf16) := fun v350 k0_hw17 => k0_hw17.2 (k0_off63_inb v350 k0_hw17)

def k0_off64 (v349 : BitVec 32) : Fin 2 → Nat :=
  let c512_i32_212 : BitVec 32 := 512#32
  let v357 : BitVec 32 := Scalar.muli v349 c512_i32_212
  let c0_i32_217 : BitVec 32 := 0#32
  ![v357.toNat, 0]

def k0_chk18 (v349 : BitVec 32) : Prop :=
  (∀ a, (k0_off64 v349) a + S512x4096.size a ≤ S8192x4096.size a) ∧
  (∀ (hinb : ∀ a, (k0_off64 v349) a + S512x4096.size a ≤ S8192x4096.size a), (Rect.unit (s := S8192x4096) (k0_off64 v349) S512x4096.size hinb).WholeWords (EltTy.packing .bf16))
theorem k0_off64_inb : ∀ (v349 : BitVec 32) (k0_hw18 : k0_chk18 v349), ∀ a, (k0_off64 v349) a + S512x4096.size a ≤ S8192x4096.size a := fun v349 k0_hw18 => k0_hw18.1
theorem k0_off64_wordsbf16 : ∀ (v349 : BitVec 32) (k0_hw18 : k0_chk18 v349), (Rect.unit (s := S8192x4096) (k0_off64 v349) S512x4096.size (k0_off64_inb v349 k0_hw18)).WholeWords (EltTy.packing .bf16) := fun v349 k0_hw18 => k0_hw18.2 (k0_off64_inb v349 k0_hw18)

def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_194 : BitVec 32 := 512#32
  let v334 : BitVec 32 := Scalar.muli v2 c512_i32_194
  let v363 : Index := Scalar.indexCast v334
  let c0_218 : Index := 0#32
  ![v363.toNat, 0]
def k0_off66 (v370 : BitVec 32) : Fin 2 → Nat :=
  let c512_i32_226 : BitVec 32 := 512#32
  let v371 : BitVec 32 := Scalar.muli v370 c512_i32_226
  let c0_i32_231 : BitVec 32 := 0#32
  ![v371.toNat, 0]

def k0_chk19 (v370 : BitVec 32) : Prop :=
  (∀ a, (k0_off66 v370) a + S512x4096.size a ≤ S8192x4096.size a) ∧
  (∀ (hinb : ∀ a, (k0_off66 v370) a + S512x4096.size a ≤ S8192x4096.size a), (Rect.unit (s := S8192x4096) (k0_off66 v370) S512x4096.size hinb).WholeWords (EltTy.packing .bf16))
theorem k0_off66_inb : ∀ (v370 : BitVec 32) (k0_hw19 : k0_chk19 v370), ∀ a, (k0_off66 v370) a + S512x4096.size a ≤ S8192x4096.size a := fun v370 k0_hw19 => k0_hw19.1
theorem k0_off66_wordsbf16 : ∀ (v370 : BitVec 32) (k0_hw19 : k0_chk19 v370), (Rect.unit (s := S8192x4096) (k0_off66 v370) S512x4096.size (k0_off66_inb v370 k0_hw19)).WholeWords (EltTy.packing .bf16) := fun v370 k0_hw19 => k0_hw19.2 (k0_off66_inb v370 k0_hw19)

def k0_off67 (v369 : BitVec 32) : Fin 2 → Nat :=
  let c512_i32_232 : BitVec 32 := 512#32
  let v377 : BitVec 32 := Scalar.muli v369 c512_i32_232
  let c0_i32_237 : BitVec 32 := 0#32
  ![v377.toNat, 0]

def k0_off68 (v369 : BitVec 32) : Fin 1 → Nat :=
  ![v369.toNat]
def k0_off69 (v369 : BitVec 32) : Fin 3 → Nat :=
  let c0_i32_242 : BitVec 32 := 0#32
  let c0_i32_243 : BitVec 32 := 0#32
  ![v369.toNat, 0, 0]
def k0_off70 (v369 : BitVec 32) : Fin 3 → Nat :=
  let v390 : Index := Scalar.indexCast v369
  let c0_246 : Index := 0#32
  let c0_247 : Index := 0#32
  ![v390.toNat, 0, 0]

def k0_chk20 (v369 : BitVec 32) : Prop :=
  (∀ a, (k0_off67 v369) a + S512x4096.size a ≤ S8192x4096.size a) ∧
  (∀ (hinb : ∀ a, (k0_off67 v369) a + S512x4096.size a ≤ S8192x4096.size a), (Rect.unit (s := S8192x4096) (k0_off67 v369) S512x4096.size hinb).WholeWords (EltTy.packing .bf16)) ∧
  (∀ a, (k0_off68 v369) a + S1.size a ≤ S16.size a) ∧
  (∀ a, (k0_off69 v369) a + S1x512x512.size a ≤ S16x512x512.size a) ∧
  (∀ (hinb : ∀ a, (k0_off69 v369) a + S1x512x512.size a ≤ S16x512x512.size a), (Rect.unit (s := S16x512x512) (k0_off69 v369) S1x512x512.size hinb).WholeWords (EltTy.packing .bf16)) ∧
  (∀ a, (k0_off70 v369) a + S1x512x512.size a ≤ S16x512x512.size a)
theorem k0_off67_inb : ∀ (v369 : BitVec 32) (k0_hw20 : k0_chk20 v369), ∀ a, (k0_off67 v369) a + S512x4096.size a ≤ S8192x4096.size a := fun v369 k0_hw20 => k0_hw20.1
theorem k0_off67_wordsbf16 : ∀ (v369 : BitVec 32) (k0_hw20 : k0_chk20 v369), (Rect.unit (s := S8192x4096) (k0_off67 v369) S512x4096.size (k0_off67_inb v369 k0_hw20)).WholeWords (EltTy.packing .bf16) := fun v369 k0_hw20 => k0_hw20.2.1 (k0_off67_inb v369 k0_hw20)
theorem k0_off68_inb : ∀ (v369 : BitVec 32) (k0_hw20 : k0_chk20 v369), ∀ a, (k0_off68 v369) a + S1.size a ≤ S16.size a := fun v369 k0_hw20 => k0_hw20.2.2.1
theorem k0_off69_inb : ∀ (v369 : BitVec 32) (k0_hw20 : k0_chk20 v369), ∀ a, (k0_off69 v369) a + S1x512x512.size a ≤ S16x512x512.size a := fun v369 k0_hw20 => k0_hw20.2.2.2.1
theorem k0_off69_wordsbf16 : ∀ (v369 : BitVec 32) (k0_hw20 : k0_chk20 v369), (Rect.unit (s := S16x512x512) (k0_off69 v369) S1x512x512.size (k0_off69_inb v369 k0_hw20)).WholeWords (EltTy.packing .bf16) := fun v369 k0_hw20 => k0_hw20.2.2.2.2.1 (k0_off69_inb v369 k0_hw20)
theorem k0_off70_inb : ∀ (v369 : BitVec 32) (k0_hw20 : k0_chk20 v369), ∀ a, (k0_off70 v369) a + S1x512x512.size a ≤ S16x512x512.size a := fun v369 k0_hw20 => k0_hw20.2.2.2.2.2

def k0_off71 (v401 : BitVec 32) : Fin 2 → Nat :=
  let c512_i32_258 : BitVec 32 := 512#32
  let v402 : BitVec 32 := Scalar.muli v401 c512_i32_258
  let c0_i32_263 : BitVec 32 := 0#32
  ![v402.toNat, 0]

def k0_chk21 (v401 : BitVec 32) : Prop :=
  (∀ a, (k0_off71 v401) a + S512x4096.size a ≤ S8192x4096.size a) ∧
  (∀ (hinb : ∀ a, (k0_off71 v401) a + S512x4096.size a ≤ S8192x4096.size a), (Rect.unit (s := S8192x4096) (k0_off71 v401) S512x4096.size hinb).WholeWords (EltTy.packing .bf16))
theorem k0_off71_inb : ∀ (v401 : BitVec 32) (k0_hw21 : k0_chk21 v401), ∀ a, (k0_off71 v401) a + S512x4096.size a ≤ S8192x4096.size a := fun v401 k0_hw21 => k0_hw21.1
theorem k0_off71_wordsbf16 : ∀ (v401 : BitVec 32) (k0_hw21 : k0_chk21 v401), (Rect.unit (s := S8192x4096) (k0_off71 v401) S512x4096.size (k0_off71_inb v401 k0_hw21)).WholeWords (EltTy.packing .bf16) := fun v401 k0_hw21 => k0_hw21.2 (k0_off71_inb v401 k0_hw21)

def k0_off72 (v400 : BitVec 32) : Fin 2 → Nat :=
  let c512_i32_264 : BitVec 32 := 512#32
  let v408 : BitVec 32 := Scalar.muli v400 c512_i32_264
  let c0_i32_269 : BitVec 32 := 0#32
  ![v408.toNat, 0]

def k0_off73 (v400 : BitVec 32) : Fin 1 → Nat :=
  ![v400.toNat]
def k0_off74 (v400 : BitVec 32) : Fin 3 → Nat :=
  let c0_i32_274 : BitVec 32 := 0#32
  let c0_i32_275 : BitVec 32 := 0#32
  ![v400.toNat, 0, 0]
def k0_off75 (v400 : BitVec 32) : Fin 3 → Nat :=
  let v421 : Index := Scalar.indexCast v400
  let c0_278 : Index := 0#32
  let c0_279 : Index := 0#32
  ![v421.toNat, 0, 0]

def k0_chk22 (v400 : BitVec 32) : Prop :=
  (∀ a, (k0_off72 v400) a + S512x4096.size a ≤ S8192x4096.size a) ∧
  (∀ (hinb : ∀ a, (k0_off72 v400) a + S512x4096.size a ≤ S8192x4096.size a), (Rect.unit (s := S8192x4096) (k0_off72 v400) S512x4096.size hinb).WholeWords (EltTy.packing .bf16)) ∧
  (∀ a, (k0_off73 v400) a + S1.size a ≤ S16.size a) ∧
  (∀ a, (k0_off74 v400) a + S1x512x512.size a ≤ S16x512x512.size a) ∧
  (∀ (hinb : ∀ a, (k0_off74 v400) a + S1x512x512.size a ≤ S16x512x512.size a), (Rect.unit (s := S16x512x512) (k0_off74 v400) S1x512x512.size hinb).WholeWords (EltTy.packing .bf16)) ∧
  (∀ a, (k0_off75 v400) a + S1x512x512.size a ≤ S16x512x512.size a)
theorem k0_off72_inb : ∀ (v400 : BitVec 32) (k0_hw22 : k0_chk22 v400), ∀ a, (k0_off72 v400) a + S512x4096.size a ≤ S8192x4096.size a := fun v400 k0_hw22 => k0_hw22.1
theorem k0_off72_wordsbf16 : ∀ (v400 : BitVec 32) (k0_hw22 : k0_chk22 v400), (Rect.unit (s := S8192x4096) (k0_off72 v400) S512x4096.size (k0_off72_inb v400 k0_hw22)).WholeWords (EltTy.packing .bf16) := fun v400 k0_hw22 => k0_hw22.2.1 (k0_off72_inb v400 k0_hw22)
theorem k0_off73_inb : ∀ (v400 : BitVec 32) (k0_hw22 : k0_chk22 v400), ∀ a, (k0_off73 v400) a + S1.size a ≤ S16.size a := fun v400 k0_hw22 => k0_hw22.2.2.1
theorem k0_off74_inb : ∀ (v400 : BitVec 32) (k0_hw22 : k0_chk22 v400), ∀ a, (k0_off74 v400) a + S1x512x512.size a ≤ S16x512x512.size a := fun v400 k0_hw22 => k0_hw22.2.2.2.1
theorem k0_off74_wordsbf16 : ∀ (v400 : BitVec 32) (k0_hw22 : k0_chk22 v400), (Rect.unit (s := S16x512x512) (k0_off74 v400) S1x512x512.size (k0_off74_inb v400 k0_hw22)).WholeWords (EltTy.packing .bf16) := fun v400 k0_hw22 => k0_hw22.2.2.2.2.1 (k0_off74_inb v400 k0_hw22)
theorem k0_off75_inb : ∀ (v400 : BitVec 32) (k0_hw22 : k0_chk22 v400), ∀ a, (k0_off75 v400) a + S1x512x512.size a ≤ S16x512x512.size a := fun v400 k0_hw22 => k0_hw22.2.2.2.2.2

def k0_off76 (v432 : BitVec 32) : Fin 2 → Nat :=
  let c512_i32_290 : BitVec 32 := 512#32
  let v433 : BitVec 32 := Scalar.muli v432 c512_i32_290
  let c0_i32_295 : BitVec 32 := 0#32
  ![v433.toNat, 0]

def k0_chk23 (v432 : BitVec 32) : Prop :=
  (∀ a, (k0_off76 v432) a + S512x4096.size a ≤ S8192x4096.size a) ∧
  (∀ (hinb : ∀ a, (k0_off76 v432) a + S512x4096.size a ≤ S8192x4096.size a), (Rect.unit (s := S8192x4096) (k0_off76 v432) S512x4096.size hinb).WholeWords (EltTy.packing .bf16))
theorem k0_off76_inb : ∀ (v432 : BitVec 32) (k0_hw23 : k0_chk23 v432), ∀ a, (k0_off76 v432) a + S512x4096.size a ≤ S8192x4096.size a := fun v432 k0_hw23 => k0_hw23.1
theorem k0_off76_wordsbf16 : ∀ (v432 : BitVec 32) (k0_hw23 : k0_chk23 v432), (Rect.unit (s := S8192x4096) (k0_off76 v432) S512x4096.size (k0_off76_inb v432 k0_hw23)).WholeWords (EltTy.packing .bf16) := fun v432 k0_hw23 => k0_hw23.2 (k0_off76_inb v432 k0_hw23)

def k0_off77 (v431 : BitVec 32) : Fin 2 → Nat :=
  let c512_i32_296 : BitVec 32 := 512#32
  let v439 : BitVec 32 := Scalar.muli v431 c512_i32_296
  let c0_i32_301 : BitVec 32 := 0#32
  ![v439.toNat, 0]

def k0_off78 (v431 : BitVec 32) : Fin 1 → Nat :=
  ![v431.toNat]
def k0_off79 (v431 : BitVec 32) : Fin 3 → Nat :=
  let c0_i32_306 : BitVec 32 := 0#32
  let c0_i32_307 : BitVec 32 := 0#32
  ![v431.toNat, 0, 0]
def k0_off80 (v431 : BitVec 32) : Fin 3 → Nat :=
  let v452 : Index := Scalar.indexCast v431
  let c0_310 : Index := 0#32
  let c0_311 : Index := 0#32
  ![v452.toNat, 0, 0]

def k0_chk24 (v431 : BitVec 32) : Prop :=
  (∀ a, (k0_off77 v431) a + S512x4096.size a ≤ S8192x4096.size a) ∧
  (∀ (hinb : ∀ a, (k0_off77 v431) a + S512x4096.size a ≤ S8192x4096.size a), (Rect.unit (s := S8192x4096) (k0_off77 v431) S512x4096.size hinb).WholeWords (EltTy.packing .bf16)) ∧
  (∀ a, (k0_off78 v431) a + S1.size a ≤ S16.size a) ∧
  (∀ a, (k0_off79 v431) a + S1x512x512.size a ≤ S16x512x512.size a) ∧
  (∀ (hinb : ∀ a, (k0_off79 v431) a + S1x512x512.size a ≤ S16x512x512.size a), (Rect.unit (s := S16x512x512) (k0_off79 v431) S1x512x512.size hinb).WholeWords (EltTy.packing .bf16)) ∧
  (∀ a, (k0_off80 v431) a + S1x512x512.size a ≤ S16x512x512.size a)
theorem k0_off77_inb : ∀ (v431 : BitVec 32) (k0_hw24 : k0_chk24 v431), ∀ a, (k0_off77 v431) a + S512x4096.size a ≤ S8192x4096.size a := fun v431 k0_hw24 => k0_hw24.1
theorem k0_off77_wordsbf16 : ∀ (v431 : BitVec 32) (k0_hw24 : k0_chk24 v431), (Rect.unit (s := S8192x4096) (k0_off77 v431) S512x4096.size (k0_off77_inb v431 k0_hw24)).WholeWords (EltTy.packing .bf16) := fun v431 k0_hw24 => k0_hw24.2.1 (k0_off77_inb v431 k0_hw24)
theorem k0_off78_inb : ∀ (v431 : BitVec 32) (k0_hw24 : k0_chk24 v431), ∀ a, (k0_off78 v431) a + S1.size a ≤ S16.size a := fun v431 k0_hw24 => k0_hw24.2.2.1
theorem k0_off79_inb : ∀ (v431 : BitVec 32) (k0_hw24 : k0_chk24 v431), ∀ a, (k0_off79 v431) a + S1x512x512.size a ≤ S16x512x512.size a := fun v431 k0_hw24 => k0_hw24.2.2.2.1
theorem k0_off79_wordsbf16 : ∀ (v431 : BitVec 32) (k0_hw24 : k0_chk24 v431), (Rect.unit (s := S16x512x512) (k0_off79 v431) S1x512x512.size (k0_off79_inb v431 k0_hw24)).WholeWords (EltTy.packing .bf16) := fun v431 k0_hw24 => k0_hw24.2.2.2.2.1 (k0_off79_inb v431 k0_hw24)
theorem k0_off80_inb : ∀ (v431 : BitVec 32) (k0_hw24 : k0_chk24 v431), ∀ a, (k0_off80 v431) a + S1x512x512.size a ≤ S16x512x512.size a := fun v431 k0_hw24 => k0_hw24.2.2.2.2.2

def k0_off81 (v463 : BitVec 32) : Fin 2 → Nat :=
  let c512_i32_322 : BitVec 32 := 512#32
  let v464 : BitVec 32 := Scalar.muli v463 c512_i32_322
  let c0_i32_327 : BitVec 32 := 0#32
  ![v464.toNat, 0]

def k0_chk25 (v463 : BitVec 32) : Prop :=
  (∀ a, (k0_off81 v463) a + S512x4096.size a ≤ S8192x4096.size a) ∧
  (∀ (hinb : ∀ a, (k0_off81 v463) a + S512x4096.size a ≤ S8192x4096.size a), (Rect.unit (s := S8192x4096) (k0_off81 v463) S512x4096.size hinb).WholeWords (EltTy.packing .bf16))
theorem k0_off81_inb : ∀ (v463 : BitVec 32) (k0_hw25 : k0_chk25 v463), ∀ a, (k0_off81 v463) a + S512x4096.size a ≤ S8192x4096.size a := fun v463 k0_hw25 => k0_hw25.1
theorem k0_off81_wordsbf16 : ∀ (v463 : BitVec 32) (k0_hw25 : k0_chk25 v463), (Rect.unit (s := S8192x4096) (k0_off81 v463) S512x4096.size (k0_off81_inb v463 k0_hw25)).WholeWords (EltTy.packing .bf16) := fun v463 k0_hw25 => k0_hw25.2 (k0_off81_inb v463 k0_hw25)

def k0_off82 (v462 : BitVec 32) : Fin 2 → Nat :=
  let c512_i32_328 : BitVec 32 := 512#32
  let v470 : BitVec 32 := Scalar.muli v462 c512_i32_328
  let c0_i32_333 : BitVec 32 := 0#32
  ![v470.toNat, 0]

def k0_off83 (v462 : BitVec 32) : Fin 1 → Nat :=
  ![v462.toNat]
def k0_off84 (v462 : BitVec 32) : Fin 3 → Nat :=
  let c0_i32_338 : BitVec 32 := 0#32
  let c0_i32_339 : BitVec 32 := 0#32
  ![v462.toNat, 0, 0]
def k0_off85 (v462 : BitVec 32) : Fin 3 → Nat :=
  let v483 : Index := Scalar.indexCast v462
  let c0_342 : Index := 0#32
  let c0_343 : Index := 0#32
  ![v483.toNat, 0, 0]

def k0_chk26 (v462 : BitVec 32) : Prop :=
  (∀ a, (k0_off82 v462) a + S512x4096.size a ≤ S8192x4096.size a) ∧
  (∀ (hinb : ∀ a, (k0_off82 v462) a + S512x4096.size a ≤ S8192x4096.size a), (Rect.unit (s := S8192x4096) (k0_off82 v462) S512x4096.size hinb).WholeWords (EltTy.packing .bf16)) ∧
  (∀ a, (k0_off83 v462) a + S1.size a ≤ S16.size a) ∧
  (∀ a, (k0_off84 v462) a + S1x512x512.size a ≤ S16x512x512.size a) ∧
  (∀ (hinb : ∀ a, (k0_off84 v462) a + S1x512x512.size a ≤ S16x512x512.size a), (Rect.unit (s := S16x512x512) (k0_off84 v462) S1x512x512.size hinb).WholeWords (EltTy.packing .bf16)) ∧
  (∀ a, (k0_off85 v462) a + S1x512x512.size a ≤ S16x512x512.size a)
theorem k0_off82_inb : ∀ (v462 : BitVec 32) (k0_hw26 : k0_chk26 v462), ∀ a, (k0_off82 v462) a + S512x4096.size a ≤ S8192x4096.size a := fun v462 k0_hw26 => k0_hw26.1
theorem k0_off82_wordsbf16 : ∀ (v462 : BitVec 32) (k0_hw26 : k0_chk26 v462), (Rect.unit (s := S8192x4096) (k0_off82 v462) S512x4096.size (k0_off82_inb v462 k0_hw26)).WholeWords (EltTy.packing .bf16) := fun v462 k0_hw26 => k0_hw26.2.1 (k0_off82_inb v462 k0_hw26)
theorem k0_off83_inb : ∀ (v462 : BitVec 32) (k0_hw26 : k0_chk26 v462), ∀ a, (k0_off83 v462) a + S1.size a ≤ S16.size a := fun v462 k0_hw26 => k0_hw26.2.2.1
theorem k0_off84_inb : ∀ (v462 : BitVec 32) (k0_hw26 : k0_chk26 v462), ∀ a, (k0_off84 v462) a + S1x512x512.size a ≤ S16x512x512.size a := fun v462 k0_hw26 => k0_hw26.2.2.2.1
theorem k0_off84_wordsbf16 : ∀ (v462 : BitVec 32) (k0_hw26 : k0_chk26 v462), (Rect.unit (s := S16x512x512) (k0_off84 v462) S1x512x512.size (k0_off84_inb v462 k0_hw26)).WholeWords (EltTy.packing .bf16) := fun v462 k0_hw26 => k0_hw26.2.2.2.2.1 (k0_off84_inb v462 k0_hw26)
theorem k0_off85_inb : ∀ (v462 : BitVec 32) (k0_hw26 : k0_chk26 v462), ∀ a, (k0_off85 v462) a + S1x512x512.size a ≤ S16x512x512.size a := fun v462 k0_hw26 => k0_hw26.2.2.2.2.2

def k0_off86 (v494 : BitVec 32) : Fin 2 → Nat :=
  let c512_i32_354 : BitVec 32 := 512#32
  let v495 : BitVec 32 := Scalar.muli v494 c512_i32_354
  let c0_i32_359 : BitVec 32 := 0#32
  ![v495.toNat, 0]

def k0_chk27 (v494 : BitVec 32) : Prop :=
  (∀ a, (k0_off86 v494) a + S512x4096.size a ≤ S8192x4096.size a) ∧
  (∀ (hinb : ∀ a, (k0_off86 v494) a + S512x4096.size a ≤ S8192x4096.size a), (Rect.unit (s := S8192x4096) (k0_off86 v494) S512x4096.size hinb).WholeWords (EltTy.packing .bf16))
theorem k0_off86_inb : ∀ (v494 : BitVec 32) (k0_hw27 : k0_chk27 v494), ∀ a, (k0_off86 v494) a + S512x4096.size a ≤ S8192x4096.size a := fun v494 k0_hw27 => k0_hw27.1
theorem k0_off86_wordsbf16 : ∀ (v494 : BitVec 32) (k0_hw27 : k0_chk27 v494), (Rect.unit (s := S8192x4096) (k0_off86 v494) S512x4096.size (k0_off86_inb v494 k0_hw27)).WholeWords (EltTy.packing .bf16) := fun v494 k0_hw27 => k0_hw27.2 (k0_off86_inb v494 k0_hw27)

def k0_off87 (v493 : BitVec 32) : Fin 2 → Nat :=
  let c512_i32_360 : BitVec 32 := 512#32
  let v501 : BitVec 32 := Scalar.muli v493 c512_i32_360
  let c0_i32_365 : BitVec 32 := 0#32
  ![v501.toNat, 0]

def k0_off88 (v493 : BitVec 32) : Fin 1 → Nat :=
  ![v493.toNat]
def k0_off89 (v493 : BitVec 32) : Fin 3 → Nat :=
  let c0_i32_370 : BitVec 32 := 0#32
  let c0_i32_371 : BitVec 32 := 0#32
  ![v493.toNat, 0, 0]
def k0_off90 (v493 : BitVec 32) : Fin 3 → Nat :=
  let v514 : Index := Scalar.indexCast v493
  let c0_374 : Index := 0#32
  let c0_375 : Index := 0#32
  ![v514.toNat, 0, 0]

def k0_chk28 (v493 : BitVec 32) : Prop :=
  (∀ a, (k0_off87 v493) a + S512x4096.size a ≤ S8192x4096.size a) ∧
  (∀ (hinb : ∀ a, (k0_off87 v493) a + S512x4096.size a ≤ S8192x4096.size a), (Rect.unit (s := S8192x4096) (k0_off87 v493) S512x4096.size hinb).WholeWords (EltTy.packing .bf16)) ∧
  (∀ a, (k0_off88 v493) a + S1.size a ≤ S16.size a) ∧
  (∀ a, (k0_off89 v493) a + S1x512x512.size a ≤ S16x512x512.size a) ∧
  (∀ (hinb : ∀ a, (k0_off89 v493) a + S1x512x512.size a ≤ S16x512x512.size a), (Rect.unit (s := S16x512x512) (k0_off89 v493) S1x512x512.size hinb).WholeWords (EltTy.packing .bf16)) ∧
  (∀ a, (k0_off90 v493) a + S1x512x512.size a ≤ S16x512x512.size a)
theorem k0_off87_inb : ∀ (v493 : BitVec 32) (k0_hw28 : k0_chk28 v493), ∀ a, (k0_off87 v493) a + S512x4096.size a ≤ S8192x4096.size a := fun v493 k0_hw28 => k0_hw28.1
theorem k0_off87_wordsbf16 : ∀ (v493 : BitVec 32) (k0_hw28 : k0_chk28 v493), (Rect.unit (s := S8192x4096) (k0_off87 v493) S512x4096.size (k0_off87_inb v493 k0_hw28)).WholeWords (EltTy.packing .bf16) := fun v493 k0_hw28 => k0_hw28.2.1 (k0_off87_inb v493 k0_hw28)
theorem k0_off88_inb : ∀ (v493 : BitVec 32) (k0_hw28 : k0_chk28 v493), ∀ a, (k0_off88 v493) a + S1.size a ≤ S16.size a := fun v493 k0_hw28 => k0_hw28.2.2.1
theorem k0_off89_inb : ∀ (v493 : BitVec 32) (k0_hw28 : k0_chk28 v493), ∀ a, (k0_off89 v493) a + S1x512x512.size a ≤ S16x512x512.size a := fun v493 k0_hw28 => k0_hw28.2.2.2.1
theorem k0_off89_wordsbf16 : ∀ (v493 : BitVec 32) (k0_hw28 : k0_chk28 v493), (Rect.unit (s := S16x512x512) (k0_off89 v493) S1x512x512.size (k0_off89_inb v493 k0_hw28)).WholeWords (EltTy.packing .bf16) := fun v493 k0_hw28 => k0_hw28.2.2.2.2.1 (k0_off89_inb v493 k0_hw28)
theorem k0_off90_inb : ∀ (v493 : BitVec 32) (k0_hw28 : k0_chk28 v493), ∀ a, (k0_off90 v493) a + S1x512x512.size a ≤ S16x512x512.size a := fun v493 k0_hw28 => k0_hw28.2.2.2.2.2

def k0_off91 (v525 : BitVec 32) : Fin 2 → Nat :=
  let c512_i32_386 : BitVec 32 := 512#32
  let v526 : BitVec 32 := Scalar.muli v525 c512_i32_386
  let c0_i32_391 : BitVec 32 := 0#32
  ![v526.toNat, 0]

def k0_chk29 (v525 : BitVec 32) : Prop :=
  (∀ a, (k0_off91 v525) a + S512x4096.size a ≤ S8192x4096.size a) ∧
  (∀ (hinb : ∀ a, (k0_off91 v525) a + S512x4096.size a ≤ S8192x4096.size a), (Rect.unit (s := S8192x4096) (k0_off91 v525) S512x4096.size hinb).WholeWords (EltTy.packing .bf16))
theorem k0_off91_inb : ∀ (v525 : BitVec 32) (k0_hw29 : k0_chk29 v525), ∀ a, (k0_off91 v525) a + S512x4096.size a ≤ S8192x4096.size a := fun v525 k0_hw29 => k0_hw29.1
theorem k0_off91_wordsbf16 : ∀ (v525 : BitVec 32) (k0_hw29 : k0_chk29 v525), (Rect.unit (s := S8192x4096) (k0_off91 v525) S512x4096.size (k0_off91_inb v525 k0_hw29)).WholeWords (EltTy.packing .bf16) := fun v525 k0_hw29 => k0_hw29.2 (k0_off91_inb v525 k0_hw29)

def k0_off92 (v524 : BitVec 32) : Fin 2 → Nat :=
  let c512_i32_392 : BitVec 32 := 512#32
  let v532 : BitVec 32 := Scalar.muli v524 c512_i32_392
  let c0_i32_397 : BitVec 32 := 0#32
  ![v532.toNat, 0]

def k0_off93 (v524 : BitVec 32) : Fin 1 → Nat :=
  ![v524.toNat]
def k0_off94 (v524 : BitVec 32) : Fin 3 → Nat :=
  let c0_i32_402 : BitVec 32 := 0#32
  let c0_i32_403 : BitVec 32 := 0#32
  ![v524.toNat, 0, 0]
def k0_off95 (v524 : BitVec 32) : Fin 3 → Nat :=
  let v545 : Index := Scalar.indexCast v524
  let c0_406 : Index := 0#32
  let c0_407 : Index := 0#32
  ![v545.toNat, 0, 0]

def k0_chk30 (v524 : BitVec 32) : Prop :=
  (∀ a, (k0_off92 v524) a + S512x4096.size a ≤ S8192x4096.size a) ∧
  (∀ (hinb : ∀ a, (k0_off92 v524) a + S512x4096.size a ≤ S8192x4096.size a), (Rect.unit (s := S8192x4096) (k0_off92 v524) S512x4096.size hinb).WholeWords (EltTy.packing .bf16)) ∧
  (∀ a, (k0_off93 v524) a + S1.size a ≤ S16.size a) ∧
  (∀ a, (k0_off94 v524) a + S1x512x512.size a ≤ S16x512x512.size a) ∧
  (∀ (hinb : ∀ a, (k0_off94 v524) a + S1x512x512.size a ≤ S16x512x512.size a), (Rect.unit (s := S16x512x512) (k0_off94 v524) S1x512x512.size hinb).WholeWords (EltTy.packing .bf16)) ∧
  (∀ a, (k0_off95 v524) a + S1x512x512.size a ≤ S16x512x512.size a)
theorem k0_off92_inb : ∀ (v524 : BitVec 32) (k0_hw30 : k0_chk30 v524), ∀ a, (k0_off92 v524) a + S512x4096.size a ≤ S8192x4096.size a := fun v524 k0_hw30 => k0_hw30.1
theorem k0_off92_wordsbf16 : ∀ (v524 : BitVec 32) (k0_hw30 : k0_chk30 v524), (Rect.unit (s := S8192x4096) (k0_off92 v524) S512x4096.size (k0_off92_inb v524 k0_hw30)).WholeWords (EltTy.packing .bf16) := fun v524 k0_hw30 => k0_hw30.2.1 (k0_off92_inb v524 k0_hw30)
theorem k0_off93_inb : ∀ (v524 : BitVec 32) (k0_hw30 : k0_chk30 v524), ∀ a, (k0_off93 v524) a + S1.size a ≤ S16.size a := fun v524 k0_hw30 => k0_hw30.2.2.1
theorem k0_off94_inb : ∀ (v524 : BitVec 32) (k0_hw30 : k0_chk30 v524), ∀ a, (k0_off94 v524) a + S1x512x512.size a ≤ S16x512x512.size a := fun v524 k0_hw30 => k0_hw30.2.2.2.1
theorem k0_off94_wordsbf16 : ∀ (v524 : BitVec 32) (k0_hw30 : k0_chk30 v524), (Rect.unit (s := S16x512x512) (k0_off94 v524) S1x512x512.size (k0_off94_inb v524 k0_hw30)).WholeWords (EltTy.packing .bf16) := fun v524 k0_hw30 => k0_hw30.2.2.2.2.1 (k0_off94_inb v524 k0_hw30)
theorem k0_off95_inb : ∀ (v524 : BitVec 32) (k0_hw30 : k0_chk30 v524), ∀ a, (k0_off95 v524) a + S1x512x512.size a ≤ S16x512x512.size a := fun v524 k0_hw30 => k0_hw30.2.2.2.2.2

def k0_off96 (v556 : BitVec 32) : Fin 2 → Nat :=
  let c512_i32_418 : BitVec 32 := 512#32
  let v557 : BitVec 32 := Scalar.muli v556 c512_i32_418
  let c0_i32_423 : BitVec 32 := 0#32
  ![v557.toNat, 0]

def k0_chk31 (v556 : BitVec 32) : Prop :=
  (∀ a, (k0_off96 v556) a + S512x4096.size a ≤ S8192x4096.size a) ∧
  (∀ (hinb : ∀ a, (k0_off96 v556) a + S512x4096.size a ≤ S8192x4096.size a), (Rect.unit (s := S8192x4096) (k0_off96 v556) S512x4096.size hinb).WholeWords (EltTy.packing .bf16))
theorem k0_off96_inb : ∀ (v556 : BitVec 32) (k0_hw31 : k0_chk31 v556), ∀ a, (k0_off96 v556) a + S512x4096.size a ≤ S8192x4096.size a := fun v556 k0_hw31 => k0_hw31.1
theorem k0_off96_wordsbf16 : ∀ (v556 : BitVec 32) (k0_hw31 : k0_chk31 v556), (Rect.unit (s := S8192x4096) (k0_off96 v556) S512x4096.size (k0_off96_inb v556 k0_hw31)).WholeWords (EltTy.packing .bf16) := fun v556 k0_hw31 => k0_hw31.2 (k0_off96_inb v556 k0_hw31)

def k0_off97 (v555 : BitVec 32) : Fin 2 → Nat :=
  let c512_i32_424 : BitVec 32 := 512#32
  let v563 : BitVec 32 := Scalar.muli v555 c512_i32_424
  let c0_i32_429 : BitVec 32 := 0#32
  ![v563.toNat, 0]

def k0_off98 (v555 : BitVec 32) : Fin 1 → Nat :=
  ![v555.toNat]
def k0_off99 (v555 : BitVec 32) : Fin 3 → Nat :=
  let c0_i32_434 : BitVec 32 := 0#32
  let c0_i32_435 : BitVec 32 := 0#32
  ![v555.toNat, 0, 0]
def k0_off100 (v555 : BitVec 32) : Fin 3 → Nat :=
  let v576 : Index := Scalar.indexCast v555
  let c0_438 : Index := 0#32
  let c0_439 : Index := 0#32
  ![v576.toNat, 0, 0]

def k0_chk32 (v555 : BitVec 32) : Prop :=
  (∀ a, (k0_off97 v555) a + S512x4096.size a ≤ S8192x4096.size a) ∧
  (∀ (hinb : ∀ a, (k0_off97 v555) a + S512x4096.size a ≤ S8192x4096.size a), (Rect.unit (s := S8192x4096) (k0_off97 v555) S512x4096.size hinb).WholeWords (EltTy.packing .bf16)) ∧
  (∀ a, (k0_off98 v555) a + S1.size a ≤ S16.size a) ∧
  (∀ a, (k0_off99 v555) a + S1x512x512.size a ≤ S16x512x512.size a) ∧
  (∀ (hinb : ∀ a, (k0_off99 v555) a + S1x512x512.size a ≤ S16x512x512.size a), (Rect.unit (s := S16x512x512) (k0_off99 v555) S1x512x512.size hinb).WholeWords (EltTy.packing .bf16)) ∧
  (∀ a, (k0_off100 v555) a + S1x512x512.size a ≤ S16x512x512.size a)
theorem k0_off97_inb : ∀ (v555 : BitVec 32) (k0_hw32 : k0_chk32 v555), ∀ a, (k0_off97 v555) a + S512x4096.size a ≤ S8192x4096.size a := fun v555 k0_hw32 => k0_hw32.1
theorem k0_off97_wordsbf16 : ∀ (v555 : BitVec 32) (k0_hw32 : k0_chk32 v555), (Rect.unit (s := S8192x4096) (k0_off97 v555) S512x4096.size (k0_off97_inb v555 k0_hw32)).WholeWords (EltTy.packing .bf16) := fun v555 k0_hw32 => k0_hw32.2.1 (k0_off97_inb v555 k0_hw32)
theorem k0_off98_inb : ∀ (v555 : BitVec 32) (k0_hw32 : k0_chk32 v555), ∀ a, (k0_off98 v555) a + S1.size a ≤ S16.size a := fun v555 k0_hw32 => k0_hw32.2.2.1
theorem k0_off99_inb : ∀ (v555 : BitVec 32) (k0_hw32 : k0_chk32 v555), ∀ a, (k0_off99 v555) a + S1x512x512.size a ≤ S16x512x512.size a := fun v555 k0_hw32 => k0_hw32.2.2.2.1
theorem k0_off99_wordsbf16 : ∀ (v555 : BitVec 32) (k0_hw32 : k0_chk32 v555), (Rect.unit (s := S16x512x512) (k0_off99 v555) S1x512x512.size (k0_off99_inb v555 k0_hw32)).WholeWords (EltTy.packing .bf16) := fun v555 k0_hw32 => k0_hw32.2.2.2.2.1 (k0_off99_inb v555 k0_hw32)
theorem k0_off100_inb : ∀ (v555 : BitVec 32) (k0_hw32 : k0_chk32 v555), ∀ a, (k0_off100 v555) a + S1x512x512.size a ≤ S16x512x512.size a := fun v555 k0_hw32 => k0_hw32.2.2.2.2.2

def k0_off101 (v587 : BitVec 32) : Fin 2 → Nat :=
  let c512_i32_450 : BitVec 32 := 512#32
  let v588 : BitVec 32 := Scalar.muli v587 c512_i32_450
  let c0_i32_455 : BitVec 32 := 0#32
  ![v588.toNat, 0]

def k0_chk33 (v587 : BitVec 32) : Prop :=
  (∀ a, (k0_off101 v587) a + S512x4096.size a ≤ S8192x4096.size a) ∧
  (∀ (hinb : ∀ a, (k0_off101 v587) a + S512x4096.size a ≤ S8192x4096.size a), (Rect.unit (s := S8192x4096) (k0_off101 v587) S512x4096.size hinb).WholeWords (EltTy.packing .bf16))
theorem k0_off101_inb : ∀ (v587 : BitVec 32) (k0_hw33 : k0_chk33 v587), ∀ a, (k0_off101 v587) a + S512x4096.size a ≤ S8192x4096.size a := fun v587 k0_hw33 => k0_hw33.1
theorem k0_off101_wordsbf16 : ∀ (v587 : BitVec 32) (k0_hw33 : k0_chk33 v587), (Rect.unit (s := S8192x4096) (k0_off101 v587) S512x4096.size (k0_off101_inb v587 k0_hw33)).WholeWords (EltTy.packing .bf16) := fun v587 k0_hw33 => k0_hw33.2 (k0_off101_inb v587 k0_hw33)

def k0_off102 (v586 : BitVec 32) : Fin 2 → Nat :=
  let c512_i32_456 : BitVec 32 := 512#32
  let v594 : BitVec 32 := Scalar.muli v586 c512_i32_456
  let c0_i32_461 : BitVec 32 := 0#32
  ![v594.toNat, 0]

def k0_off103 (v586 : BitVec 32) : Fin 1 → Nat :=
  ![v586.toNat]
def k0_off104 (v586 : BitVec 32) : Fin 3 → Nat :=
  let c0_i32_466 : BitVec 32 := 0#32
  let c0_i32_467 : BitVec 32 := 0#32
  ![v586.toNat, 0, 0]
def k0_off105 (v586 : BitVec 32) : Fin 3 → Nat :=
  let v607 : Index := Scalar.indexCast v586
  let c0_470 : Index := 0#32
  let c0_471 : Index := 0#32
  ![v607.toNat, 0, 0]

def k0_chk34 (v586 : BitVec 32) : Prop :=
  (∀ a, (k0_off102 v586) a + S512x4096.size a ≤ S8192x4096.size a) ∧
  (∀ (hinb : ∀ a, (k0_off102 v586) a + S512x4096.size a ≤ S8192x4096.size a), (Rect.unit (s := S8192x4096) (k0_off102 v586) S512x4096.size hinb).WholeWords (EltTy.packing .bf16)) ∧
  (∀ a, (k0_off103 v586) a + S1.size a ≤ S16.size a) ∧
  (∀ a, (k0_off104 v586) a + S1x512x512.size a ≤ S16x512x512.size a) ∧
  (∀ (hinb : ∀ a, (k0_off104 v586) a + S1x512x512.size a ≤ S16x512x512.size a), (Rect.unit (s := S16x512x512) (k0_off104 v586) S1x512x512.size hinb).WholeWords (EltTy.packing .bf16)) ∧
  (∀ a, (k0_off105 v586) a + S1x512x512.size a ≤ S16x512x512.size a)
theorem k0_off102_inb : ∀ (v586 : BitVec 32) (k0_hw34 : k0_chk34 v586), ∀ a, (k0_off102 v586) a + S512x4096.size a ≤ S8192x4096.size a := fun v586 k0_hw34 => k0_hw34.1
theorem k0_off102_wordsbf16 : ∀ (v586 : BitVec 32) (k0_hw34 : k0_chk34 v586), (Rect.unit (s := S8192x4096) (k0_off102 v586) S512x4096.size (k0_off102_inb v586 k0_hw34)).WholeWords (EltTy.packing .bf16) := fun v586 k0_hw34 => k0_hw34.2.1 (k0_off102_inb v586 k0_hw34)
theorem k0_off103_inb : ∀ (v586 : BitVec 32) (k0_hw34 : k0_chk34 v586), ∀ a, (k0_off103 v586) a + S1.size a ≤ S16.size a := fun v586 k0_hw34 => k0_hw34.2.2.1
theorem k0_off104_inb : ∀ (v586 : BitVec 32) (k0_hw34 : k0_chk34 v586), ∀ a, (k0_off104 v586) a + S1x512x512.size a ≤ S16x512x512.size a := fun v586 k0_hw34 => k0_hw34.2.2.2.1
theorem k0_off104_wordsbf16 : ∀ (v586 : BitVec 32) (k0_hw34 : k0_chk34 v586), (Rect.unit (s := S16x512x512) (k0_off104 v586) S1x512x512.size (k0_off104_inb v586 k0_hw34)).WholeWords (EltTy.packing .bf16) := fun v586 k0_hw34 => k0_hw34.2.2.2.2.1 (k0_off104_inb v586 k0_hw34)
theorem k0_off105_inb : ∀ (v586 : BitVec 32) (k0_hw34 : k0_chk34 v586), ∀ a, (k0_off105 v586) a + S1x512x512.size a ≤ S16x512x512.size a := fun v586 k0_hw34 => k0_hw34.2.2.2.2.2

def k0_off106 (v618 : BitVec 32) : Fin 2 → Nat :=
  let c512_i32_482 : BitVec 32 := 512#32
  let v619 : BitVec 32 := Scalar.muli v618 c512_i32_482
  let c0_i32_487 : BitVec 32 := 0#32
  ![v619.toNat, 0]

def k0_chk35 (v618 : BitVec 32) : Prop :=
  (∀ a, (k0_off106 v618) a + S512x4096.size a ≤ S8192x4096.size a) ∧
  (∀ (hinb : ∀ a, (k0_off106 v618) a + S512x4096.size a ≤ S8192x4096.size a), (Rect.unit (s := S8192x4096) (k0_off106 v618) S512x4096.size hinb).WholeWords (EltTy.packing .bf16))
theorem k0_off106_inb : ∀ (v618 : BitVec 32) (k0_hw35 : k0_chk35 v618), ∀ a, (k0_off106 v618) a + S512x4096.size a ≤ S8192x4096.size a := fun v618 k0_hw35 => k0_hw35.1
theorem k0_off106_wordsbf16 : ∀ (v618 : BitVec 32) (k0_hw35 : k0_chk35 v618), (Rect.unit (s := S8192x4096) (k0_off106 v618) S512x4096.size (k0_off106_inb v618 k0_hw35)).WholeWords (EltTy.packing .bf16) := fun v618 k0_hw35 => k0_hw35.2 (k0_off106_inb v618 k0_hw35)

def k0_off107 (v617 : BitVec 32) : Fin 2 → Nat :=
  let c512_i32_488 : BitVec 32 := 512#32
  let v625 : BitVec 32 := Scalar.muli v617 c512_i32_488
  let c0_i32_493 : BitVec 32 := 0#32
  ![v625.toNat, 0]

def k0_off108 (v617 : BitVec 32) : Fin 1 → Nat :=
  ![v617.toNat]
def k0_off109 (v617 : BitVec 32) : Fin 3 → Nat :=
  let c0_i32_498 : BitVec 32 := 0#32
  let c0_i32_499 : BitVec 32 := 0#32
  ![v617.toNat, 0, 0]
def k0_off110 (v617 : BitVec 32) : Fin 3 → Nat :=
  let v638 : Index := Scalar.indexCast v617
  let c0_502 : Index := 0#32
  let c0_503 : Index := 0#32
  ![v638.toNat, 0, 0]

def k0_chk36 (v617 : BitVec 32) : Prop :=
  (∀ a, (k0_off107 v617) a + S512x4096.size a ≤ S8192x4096.size a) ∧
  (∀ (hinb : ∀ a, (k0_off107 v617) a + S512x4096.size a ≤ S8192x4096.size a), (Rect.unit (s := S8192x4096) (k0_off107 v617) S512x4096.size hinb).WholeWords (EltTy.packing .bf16)) ∧
  (∀ a, (k0_off108 v617) a + S1.size a ≤ S16.size a) ∧
  (∀ a, (k0_off109 v617) a + S1x512x512.size a ≤ S16x512x512.size a) ∧
  (∀ (hinb : ∀ a, (k0_off109 v617) a + S1x512x512.size a ≤ S16x512x512.size a), (Rect.unit (s := S16x512x512) (k0_off109 v617) S1x512x512.size hinb).WholeWords (EltTy.packing .bf16)) ∧
  (∀ a, (k0_off110 v617) a + S1x512x512.size a ≤ S16x512x512.size a)
theorem k0_off107_inb : ∀ (v617 : BitVec 32) (k0_hw36 : k0_chk36 v617), ∀ a, (k0_off107 v617) a + S512x4096.size a ≤ S8192x4096.size a := fun v617 k0_hw36 => k0_hw36.1
theorem k0_off107_wordsbf16 : ∀ (v617 : BitVec 32) (k0_hw36 : k0_chk36 v617), (Rect.unit (s := S8192x4096) (k0_off107 v617) S512x4096.size (k0_off107_inb v617 k0_hw36)).WholeWords (EltTy.packing .bf16) := fun v617 k0_hw36 => k0_hw36.2.1 (k0_off107_inb v617 k0_hw36)
theorem k0_off108_inb : ∀ (v617 : BitVec 32) (k0_hw36 : k0_chk36 v617), ∀ a, (k0_off108 v617) a + S1.size a ≤ S16.size a := fun v617 k0_hw36 => k0_hw36.2.2.1
theorem k0_off109_inb : ∀ (v617 : BitVec 32) (k0_hw36 : k0_chk36 v617), ∀ a, (k0_off109 v617) a + S1x512x512.size a ≤ S16x512x512.size a := fun v617 k0_hw36 => k0_hw36.2.2.2.1
theorem k0_off109_wordsbf16 : ∀ (v617 : BitVec 32) (k0_hw36 : k0_chk36 v617), (Rect.unit (s := S16x512x512) (k0_off109 v617) S1x512x512.size (k0_off109_inb v617 k0_hw36)).WholeWords (EltTy.packing .bf16) := fun v617 k0_hw36 => k0_hw36.2.2.2.2.1 (k0_off109_inb v617 k0_hw36)
theorem k0_off110_inb : ∀ (v617 : BitVec 32) (k0_hw36 : k0_chk36 v617), ∀ a, (k0_off110 v617) a + S1x512x512.size a ≤ S16x512x512.size a := fun v617 k0_hw36 => k0_hw36.2.2.2.2.2

def k0_off111 (v649 : BitVec 32) : Fin 2 → Nat :=
  let c512_i32_514 : BitVec 32 := 512#32
  let v650 : BitVec 32 := Scalar.muli v649 c512_i32_514
  let c0_i32_519 : BitVec 32 := 0#32
  ![v650.toNat, 0]

def k0_chk37 (v649 : BitVec 32) : Prop :=
  (∀ a, (k0_off111 v649) a + S512x4096.size a ≤ S8192x4096.size a) ∧
  (∀ (hinb : ∀ a, (k0_off111 v649) a + S512x4096.size a ≤ S8192x4096.size a), (Rect.unit (s := S8192x4096) (k0_off111 v649) S512x4096.size hinb).WholeWords (EltTy.packing .bf16))
theorem k0_off111_inb : ∀ (v649 : BitVec 32) (k0_hw37 : k0_chk37 v649), ∀ a, (k0_off111 v649) a + S512x4096.size a ≤ S8192x4096.size a := fun v649 k0_hw37 => k0_hw37.1
theorem k0_off111_wordsbf16 : ∀ (v649 : BitVec 32) (k0_hw37 : k0_chk37 v649), (Rect.unit (s := S8192x4096) (k0_off111 v649) S512x4096.size (k0_off111_inb v649 k0_hw37)).WholeWords (EltTy.packing .bf16) := fun v649 k0_hw37 => k0_hw37.2 (k0_off111_inb v649 k0_hw37)

def k0_off112 (v648 : BitVec 32) : Fin 2 → Nat :=
  let c512_i32_520 : BitVec 32 := 512#32
  let v656 : BitVec 32 := Scalar.muli v648 c512_i32_520
  let c0_i32_525 : BitVec 32 := 0#32
  ![v656.toNat, 0]

def k0_off113 (v648 : BitVec 32) : Fin 1 → Nat :=
  ![v648.toNat]
def k0_off114 (v648 : BitVec 32) : Fin 3 → Nat :=
  let c0_i32_530 : BitVec 32 := 0#32
  let c0_i32_531 : BitVec 32 := 0#32
  ![v648.toNat, 0, 0]
def k0_off115 (v648 : BitVec 32) : Fin 3 → Nat :=
  let v669 : Index := Scalar.indexCast v648
  let c0_534 : Index := 0#32
  let c0_535 : Index := 0#32
  ![v669.toNat, 0, 0]

def k0_chk38 (v648 : BitVec 32) : Prop :=
  (∀ a, (k0_off112 v648) a + S512x4096.size a ≤ S8192x4096.size a) ∧
  (∀ (hinb : ∀ a, (k0_off112 v648) a + S512x4096.size a ≤ S8192x4096.size a), (Rect.unit (s := S8192x4096) (k0_off112 v648) S512x4096.size hinb).WholeWords (EltTy.packing .bf16)) ∧
  (∀ a, (k0_off113 v648) a + S1.size a ≤ S16.size a) ∧
  (∀ a, (k0_off114 v648) a + S1x512x512.size a ≤ S16x512x512.size a) ∧
  (∀ (hinb : ∀ a, (k0_off114 v648) a + S1x512x512.size a ≤ S16x512x512.size a), (Rect.unit (s := S16x512x512) (k0_off114 v648) S1x512x512.size hinb).WholeWords (EltTy.packing .bf16)) ∧
  (∀ a, (k0_off115 v648) a + S1x512x512.size a ≤ S16x512x512.size a)
theorem k0_off112_inb : ∀ (v648 : BitVec 32) (k0_hw38 : k0_chk38 v648), ∀ a, (k0_off112 v648) a + S512x4096.size a ≤ S8192x4096.size a := fun v648 k0_hw38 => k0_hw38.1
theorem k0_off112_wordsbf16 : ∀ (v648 : BitVec 32) (k0_hw38 : k0_chk38 v648), (Rect.unit (s := S8192x4096) (k0_off112 v648) S512x4096.size (k0_off112_inb v648 k0_hw38)).WholeWords (EltTy.packing .bf16) := fun v648 k0_hw38 => k0_hw38.2.1 (k0_off112_inb v648 k0_hw38)
theorem k0_off113_inb : ∀ (v648 : BitVec 32) (k0_hw38 : k0_chk38 v648), ∀ a, (k0_off113 v648) a + S1.size a ≤ S16.size a := fun v648 k0_hw38 => k0_hw38.2.2.1
theorem k0_off114_inb : ∀ (v648 : BitVec 32) (k0_hw38 : k0_chk38 v648), ∀ a, (k0_off114 v648) a + S1x512x512.size a ≤ S16x512x512.size a := fun v648 k0_hw38 => k0_hw38.2.2.2.1
theorem k0_off114_wordsbf16 : ∀ (v648 : BitVec 32) (k0_hw38 : k0_chk38 v648), (Rect.unit (s := S16x512x512) (k0_off114 v648) S1x512x512.size (k0_off114_inb v648 k0_hw38)).WholeWords (EltTy.packing .bf16) := fun v648 k0_hw38 => k0_hw38.2.2.2.2.1 (k0_off114_inb v648 k0_hw38)
theorem k0_off115_inb : ∀ (v648 : BitVec 32) (k0_hw38 : k0_chk38 v648), ∀ a, (k0_off115 v648) a + S1x512x512.size a ≤ S16x512x512.size a := fun v648 k0_hw38 => k0_hw38.2.2.2.2.2

def k0_off116 (v680 : BitVec 32) : Fin 2 → Nat :=
  let c512_i32_546 : BitVec 32 := 512#32
  let v681 : BitVec 32 := Scalar.muli v680 c512_i32_546
  let c0_i32_551 : BitVec 32 := 0#32
  ![v681.toNat, 0]

def k0_chk39 (v680 : BitVec 32) : Prop :=
  (∀ a, (k0_off116 v680) a + S512x4096.size a ≤ S8192x4096.size a) ∧
  (∀ (hinb : ∀ a, (k0_off116 v680) a + S512x4096.size a ≤ S8192x4096.size a), (Rect.unit (s := S8192x4096) (k0_off116 v680) S512x4096.size hinb).WholeWords (EltTy.packing .bf16))
theorem k0_off116_inb : ∀ (v680 : BitVec 32) (k0_hw39 : k0_chk39 v680), ∀ a, (k0_off116 v680) a + S512x4096.size a ≤ S8192x4096.size a := fun v680 k0_hw39 => k0_hw39.1
theorem k0_off116_wordsbf16 : ∀ (v680 : BitVec 32) (k0_hw39 : k0_chk39 v680), (Rect.unit (s := S8192x4096) (k0_off116 v680) S512x4096.size (k0_off116_inb v680 k0_hw39)).WholeWords (EltTy.packing .bf16) := fun v680 k0_hw39 => k0_hw39.2 (k0_off116_inb v680 k0_hw39)

def k0_off117 (v679 : BitVec 32) : Fin 2 → Nat :=
  let c512_i32_552 : BitVec 32 := 512#32
  let v687 : BitVec 32 := Scalar.muli v679 c512_i32_552
  let c0_i32_557 : BitVec 32 := 0#32
  ![v687.toNat, 0]

def k0_off118 (v679 : BitVec 32) : Fin 1 → Nat :=
  ![v679.toNat]
def k0_off119 (v679 : BitVec 32) : Fin 3 → Nat :=
  let c0_i32_562 : BitVec 32 := 0#32
  let c0_i32_563 : BitVec 32 := 0#32
  ![v679.toNat, 0, 0]
def k0_off120 (v679 : BitVec 32) : Fin 3 → Nat :=
  let v700 : Index := Scalar.indexCast v679
  let c0_566 : Index := 0#32
  let c0_567 : Index := 0#32
  ![v700.toNat, 0, 0]

def k0_chk40 (v679 : BitVec 32) : Prop :=
  (∀ a, (k0_off117 v679) a + S512x4096.size a ≤ S8192x4096.size a) ∧
  (∀ (hinb : ∀ a, (k0_off117 v679) a + S512x4096.size a ≤ S8192x4096.size a), (Rect.unit (s := S8192x4096) (k0_off117 v679) S512x4096.size hinb).WholeWords (EltTy.packing .bf16)) ∧
  (∀ a, (k0_off118 v679) a + S1.size a ≤ S16.size a) ∧
  (∀ a, (k0_off119 v679) a + S1x512x512.size a ≤ S16x512x512.size a) ∧
  (∀ (hinb : ∀ a, (k0_off119 v679) a + S1x512x512.size a ≤ S16x512x512.size a), (Rect.unit (s := S16x512x512) (k0_off119 v679) S1x512x512.size hinb).WholeWords (EltTy.packing .bf16)) ∧
  (∀ a, (k0_off120 v679) a + S1x512x512.size a ≤ S16x512x512.size a)
theorem k0_off117_inb : ∀ (v679 : BitVec 32) (k0_hw40 : k0_chk40 v679), ∀ a, (k0_off117 v679) a + S512x4096.size a ≤ S8192x4096.size a := fun v679 k0_hw40 => k0_hw40.1
theorem k0_off117_wordsbf16 : ∀ (v679 : BitVec 32) (k0_hw40 : k0_chk40 v679), (Rect.unit (s := S8192x4096) (k0_off117 v679) S512x4096.size (k0_off117_inb v679 k0_hw40)).WholeWords (EltTy.packing .bf16) := fun v679 k0_hw40 => k0_hw40.2.1 (k0_off117_inb v679 k0_hw40)
theorem k0_off118_inb : ∀ (v679 : BitVec 32) (k0_hw40 : k0_chk40 v679), ∀ a, (k0_off118 v679) a + S1.size a ≤ S16.size a := fun v679 k0_hw40 => k0_hw40.2.2.1
theorem k0_off119_inb : ∀ (v679 : BitVec 32) (k0_hw40 : k0_chk40 v679), ∀ a, (k0_off119 v679) a + S1x512x512.size a ≤ S16x512x512.size a := fun v679 k0_hw40 => k0_hw40.2.2.2.1
theorem k0_off119_wordsbf16 : ∀ (v679 : BitVec 32) (k0_hw40 : k0_chk40 v679), (Rect.unit (s := S16x512x512) (k0_off119 v679) S1x512x512.size (k0_off119_inb v679 k0_hw40)).WholeWords (EltTy.packing .bf16) := fun v679 k0_hw40 => k0_hw40.2.2.2.2.1 (k0_off119_inb v679 k0_hw40)
theorem k0_off120_inb : ∀ (v679 : BitVec 32) (k0_hw40 : k0_chk40 v679), ∀ a, (k0_off120 v679) a + S1x512x512.size a ≤ S16x512x512.size a := fun v679 k0_hw40 => k0_hw40.2.2.2.2.2

def k0_off121 (v711 : BitVec 32) : Fin 2 → Nat :=
  let c512_i32_578 : BitVec 32 := 512#32
  let v712 : BitVec 32 := Scalar.muli v711 c512_i32_578
  let c0_i32_583 : BitVec 32 := 0#32
  ![v712.toNat, 0]

def k0_chk41 (v711 : BitVec 32) : Prop :=
  (∀ a, (k0_off121 v711) a + S512x4096.size a ≤ S8192x4096.size a) ∧
  (∀ (hinb : ∀ a, (k0_off121 v711) a + S512x4096.size a ≤ S8192x4096.size a), (Rect.unit (s := S8192x4096) (k0_off121 v711) S512x4096.size hinb).WholeWords (EltTy.packing .bf16))
theorem k0_off121_inb : ∀ (v711 : BitVec 32) (k0_hw41 : k0_chk41 v711), ∀ a, (k0_off121 v711) a + S512x4096.size a ≤ S8192x4096.size a := fun v711 k0_hw41 => k0_hw41.1
theorem k0_off121_wordsbf16 : ∀ (v711 : BitVec 32) (k0_hw41 : k0_chk41 v711), (Rect.unit (s := S8192x4096) (k0_off121 v711) S512x4096.size (k0_off121_inb v711 k0_hw41)).WholeWords (EltTy.packing .bf16) := fun v711 k0_hw41 => k0_hw41.2 (k0_off121_inb v711 k0_hw41)

def k0_off122 (v710 : BitVec 32) : Fin 2 → Nat :=
  let c512_i32_584 : BitVec 32 := 512#32
  let v718 : BitVec 32 := Scalar.muli v710 c512_i32_584
  let c0_i32_589 : BitVec 32 := 0#32
  ![v718.toNat, 0]

def k0_off123 (v710 : BitVec 32) : Fin 1 → Nat :=
  ![v710.toNat]
def k0_off124 (v710 : BitVec 32) : Fin 3 → Nat :=
  let c0_i32_594 : BitVec 32 := 0#32
  let c0_i32_595 : BitVec 32 := 0#32
  ![v710.toNat, 0, 0]
def k0_off125 (v710 : BitVec 32) : Fin 3 → Nat :=
  let v731 : Index := Scalar.indexCast v710
  let c0_598 : Index := 0#32
  let c0_599 : Index := 0#32
  ![v731.toNat, 0, 0]

def k0_chk42 (v710 : BitVec 32) : Prop :=
  (∀ a, (k0_off122 v710) a + S512x4096.size a ≤ S8192x4096.size a) ∧
  (∀ (hinb : ∀ a, (k0_off122 v710) a + S512x4096.size a ≤ S8192x4096.size a), (Rect.unit (s := S8192x4096) (k0_off122 v710) S512x4096.size hinb).WholeWords (EltTy.packing .bf16)) ∧
  (∀ a, (k0_off123 v710) a + S1.size a ≤ S16.size a) ∧
  (∀ a, (k0_off124 v710) a + S1x512x512.size a ≤ S16x512x512.size a) ∧
  (∀ (hinb : ∀ a, (k0_off124 v710) a + S1x512x512.size a ≤ S16x512x512.size a), (Rect.unit (s := S16x512x512) (k0_off124 v710) S1x512x512.size hinb).WholeWords (EltTy.packing .bf16)) ∧
  (∀ a, (k0_off125 v710) a + S1x512x512.size a ≤ S16x512x512.size a)
theorem k0_off122_inb : ∀ (v710 : BitVec 32) (k0_hw42 : k0_chk42 v710), ∀ a, (k0_off122 v710) a + S512x4096.size a ≤ S8192x4096.size a := fun v710 k0_hw42 => k0_hw42.1
theorem k0_off122_wordsbf16 : ∀ (v710 : BitVec 32) (k0_hw42 : k0_chk42 v710), (Rect.unit (s := S8192x4096) (k0_off122 v710) S512x4096.size (k0_off122_inb v710 k0_hw42)).WholeWords (EltTy.packing .bf16) := fun v710 k0_hw42 => k0_hw42.2.1 (k0_off122_inb v710 k0_hw42)
theorem k0_off123_inb : ∀ (v710 : BitVec 32) (k0_hw42 : k0_chk42 v710), ∀ a, (k0_off123 v710) a + S1.size a ≤ S16.size a := fun v710 k0_hw42 => k0_hw42.2.2.1
theorem k0_off124_inb : ∀ (v710 : BitVec 32) (k0_hw42 : k0_chk42 v710), ∀ a, (k0_off124 v710) a + S1x512x512.size a ≤ S16x512x512.size a := fun v710 k0_hw42 => k0_hw42.2.2.2.1
theorem k0_off124_wordsbf16 : ∀ (v710 : BitVec 32) (k0_hw42 : k0_chk42 v710), (Rect.unit (s := S16x512x512) (k0_off124 v710) S1x512x512.size (k0_off124_inb v710 k0_hw42)).WholeWords (EltTy.packing .bf16) := fun v710 k0_hw42 => k0_hw42.2.2.2.2.1 (k0_off124_inb v710 k0_hw42)
theorem k0_off125_inb : ∀ (v710 : BitVec 32) (k0_hw42 : k0_chk42 v710), ∀ a, (k0_off125 v710) a + S1x512x512.size a ≤ S16x512x512.size a := fun v710 k0_hw42 => k0_hw42.2.2.2.2.2

def k0_off126 (v742 : BitVec 32) : Fin 2 → Nat :=
  let c512_i32_610 : BitVec 32 := 512#32
  let v743 : BitVec 32 := Scalar.muli v742 c512_i32_610
  let c0_i32_615 : BitVec 32 := 0#32
  ![v743.toNat, 0]

def k0_chk43 (v742 : BitVec 32) : Prop :=
  (∀ a, (k0_off126 v742) a + S512x4096.size a ≤ S8192x4096.size a) ∧
  (∀ (hinb : ∀ a, (k0_off126 v742) a + S512x4096.size a ≤ S8192x4096.size a), (Rect.unit (s := S8192x4096) (k0_off126 v742) S512x4096.size hinb).WholeWords (EltTy.packing .bf16))
theorem k0_off126_inb : ∀ (v742 : BitVec 32) (k0_hw43 : k0_chk43 v742), ∀ a, (k0_off126 v742) a + S512x4096.size a ≤ S8192x4096.size a := fun v742 k0_hw43 => k0_hw43.1
theorem k0_off126_wordsbf16 : ∀ (v742 : BitVec 32) (k0_hw43 : k0_chk43 v742), (Rect.unit (s := S8192x4096) (k0_off126 v742) S512x4096.size (k0_off126_inb v742 k0_hw43)).WholeWords (EltTy.packing .bf16) := fun v742 k0_hw43 => k0_hw43.2 (k0_off126_inb v742 k0_hw43)

def k0_off127 (v741 : BitVec 32) : Fin 2 → Nat :=
  let c512_i32_616 : BitVec 32 := 512#32
  let v749 : BitVec 32 := Scalar.muli v741 c512_i32_616
  let c0_i32_621 : BitVec 32 := 0#32
  ![v749.toNat, 0]

def k0_off128 (v741 : BitVec 32) : Fin 1 → Nat :=
  ![v741.toNat]
def k0_off129 (v741 : BitVec 32) : Fin 3 → Nat :=
  let c0_i32_626 : BitVec 32 := 0#32
  let c0_i32_627 : BitVec 32 := 0#32
  ![v741.toNat, 0, 0]
def k0_off130 (v741 : BitVec 32) : Fin 3 → Nat :=
  let v762 : Index := Scalar.indexCast v741
  let c0_630 : Index := 0#32
  let c0_631 : Index := 0#32
  ![v762.toNat, 0, 0]

def k0_chk44 (v741 : BitVec 32) : Prop :=
  (∀ a, (k0_off127 v741) a + S512x4096.size a ≤ S8192x4096.size a) ∧
  (∀ (hinb : ∀ a, (k0_off127 v741) a + S512x4096.size a ≤ S8192x4096.size a), (Rect.unit (s := S8192x4096) (k0_off127 v741) S512x4096.size hinb).WholeWords (EltTy.packing .bf16)) ∧
  (∀ a, (k0_off128 v741) a + S1.size a ≤ S16.size a) ∧
  (∀ a, (k0_off129 v741) a + S1x512x512.size a ≤ S16x512x512.size a) ∧
  (∀ (hinb : ∀ a, (k0_off129 v741) a + S1x512x512.size a ≤ S16x512x512.size a), (Rect.unit (s := S16x512x512) (k0_off129 v741) S1x512x512.size hinb).WholeWords (EltTy.packing .bf16)) ∧
  (∀ a, (k0_off130 v741) a + S1x512x512.size a ≤ S16x512x512.size a)
theorem k0_off127_inb : ∀ (v741 : BitVec 32) (k0_hw44 : k0_chk44 v741), ∀ a, (k0_off127 v741) a + S512x4096.size a ≤ S8192x4096.size a := fun v741 k0_hw44 => k0_hw44.1
theorem k0_off127_wordsbf16 : ∀ (v741 : BitVec 32) (k0_hw44 : k0_chk44 v741), (Rect.unit (s := S8192x4096) (k0_off127 v741) S512x4096.size (k0_off127_inb v741 k0_hw44)).WholeWords (EltTy.packing .bf16) := fun v741 k0_hw44 => k0_hw44.2.1 (k0_off127_inb v741 k0_hw44)
theorem k0_off128_inb : ∀ (v741 : BitVec 32) (k0_hw44 : k0_chk44 v741), ∀ a, (k0_off128 v741) a + S1.size a ≤ S16.size a := fun v741 k0_hw44 => k0_hw44.2.2.1
theorem k0_off129_inb : ∀ (v741 : BitVec 32) (k0_hw44 : k0_chk44 v741), ∀ a, (k0_off129 v741) a + S1x512x512.size a ≤ S16x512x512.size a := fun v741 k0_hw44 => k0_hw44.2.2.2.1
theorem k0_off129_wordsbf16 : ∀ (v741 : BitVec 32) (k0_hw44 : k0_chk44 v741), (Rect.unit (s := S16x512x512) (k0_off129 v741) S1x512x512.size (k0_off129_inb v741 k0_hw44)).WholeWords (EltTy.packing .bf16) := fun v741 k0_hw44 => k0_hw44.2.2.2.2.1 (k0_off129_inb v741 k0_hw44)
theorem k0_off130_inb : ∀ (v741 : BitVec 32) (k0_hw44 : k0_chk44 v741), ∀ a, (k0_off130 v741) a + S1x512x512.size a ≤ S16x512x512.size a := fun v741 k0_hw44 => k0_hw44.2.2.2.2.2

def k0_off131 (v773 : BitVec 32) : Fin 2 → Nat :=
  let c512_i32_642 : BitVec 32 := 512#32
  let v774 : BitVec 32 := Scalar.muli v773 c512_i32_642
  let c0_i32_647 : BitVec 32 := 0#32
  ![v774.toNat, 0]

def k0_chk45 (v773 : BitVec 32) : Prop :=
  (∀ a, (k0_off131 v773) a + S512x4096.size a ≤ S8192x4096.size a) ∧
  (∀ (hinb : ∀ a, (k0_off131 v773) a + S512x4096.size a ≤ S8192x4096.size a), (Rect.unit (s := S8192x4096) (k0_off131 v773) S512x4096.size hinb).WholeWords (EltTy.packing .bf16))
theorem k0_off131_inb : ∀ (v773 : BitVec 32) (k0_hw45 : k0_chk45 v773), ∀ a, (k0_off131 v773) a + S512x4096.size a ≤ S8192x4096.size a := fun v773 k0_hw45 => k0_hw45.1
theorem k0_off131_wordsbf16 : ∀ (v773 : BitVec 32) (k0_hw45 : k0_chk45 v773), (Rect.unit (s := S8192x4096) (k0_off131 v773) S512x4096.size (k0_off131_inb v773 k0_hw45)).WholeWords (EltTy.packing .bf16) := fun v773 k0_hw45 => k0_hw45.2 (k0_off131_inb v773 k0_hw45)

def k0_off132 (v772 : BitVec 32) : Fin 2 → Nat :=
  let c512_i32_648 : BitVec 32 := 512#32
  let v780 : BitVec 32 := Scalar.muli v772 c512_i32_648
  let c0_i32_653 : BitVec 32 := 0#32
  ![v780.toNat, 0]

def k0_off133 (v772 : BitVec 32) : Fin 1 → Nat :=
  ![v772.toNat]
def k0_off134 (v772 : BitVec 32) : Fin 3 → Nat :=
  let c0_i32_658 : BitVec 32 := 0#32
  let c0_i32_659 : BitVec 32 := 0#32
  ![v772.toNat, 0, 0]
def k0_off135 (v772 : BitVec 32) : Fin 3 → Nat :=
  let v793 : Index := Scalar.indexCast v772
  let c0_662 : Index := 0#32
  let c0_663 : Index := 0#32
  ![v793.toNat, 0, 0]

def k0_chk46 (v772 : BitVec 32) : Prop :=
  (∀ a, (k0_off132 v772) a + S512x4096.size a ≤ S8192x4096.size a) ∧
  (∀ (hinb : ∀ a, (k0_off132 v772) a + S512x4096.size a ≤ S8192x4096.size a), (Rect.unit (s := S8192x4096) (k0_off132 v772) S512x4096.size hinb).WholeWords (EltTy.packing .bf16)) ∧
  (∀ a, (k0_off133 v772) a + S1.size a ≤ S16.size a) ∧
  (∀ a, (k0_off134 v772) a + S1x512x512.size a ≤ S16x512x512.size a) ∧
  (∀ (hinb : ∀ a, (k0_off134 v772) a + S1x512x512.size a ≤ S16x512x512.size a), (Rect.unit (s := S16x512x512) (k0_off134 v772) S1x512x512.size hinb).WholeWords (EltTy.packing .bf16)) ∧
  (∀ a, (k0_off135 v772) a + S1x512x512.size a ≤ S16x512x512.size a)
theorem k0_off132_inb : ∀ (v772 : BitVec 32) (k0_hw46 : k0_chk46 v772), ∀ a, (k0_off132 v772) a + S512x4096.size a ≤ S8192x4096.size a := fun v772 k0_hw46 => k0_hw46.1
theorem k0_off132_wordsbf16 : ∀ (v772 : BitVec 32) (k0_hw46 : k0_chk46 v772), (Rect.unit (s := S8192x4096) (k0_off132 v772) S512x4096.size (k0_off132_inb v772 k0_hw46)).WholeWords (EltTy.packing .bf16) := fun v772 k0_hw46 => k0_hw46.2.1 (k0_off132_inb v772 k0_hw46)
theorem k0_off133_inb : ∀ (v772 : BitVec 32) (k0_hw46 : k0_chk46 v772), ∀ a, (k0_off133 v772) a + S1.size a ≤ S16.size a := fun v772 k0_hw46 => k0_hw46.2.2.1
theorem k0_off134_inb : ∀ (v772 : BitVec 32) (k0_hw46 : k0_chk46 v772), ∀ a, (k0_off134 v772) a + S1x512x512.size a ≤ S16x512x512.size a := fun v772 k0_hw46 => k0_hw46.2.2.2.1
theorem k0_off134_wordsbf16 : ∀ (v772 : BitVec 32) (k0_hw46 : k0_chk46 v772), (Rect.unit (s := S16x512x512) (k0_off134 v772) S1x512x512.size (k0_off134_inb v772 k0_hw46)).WholeWords (EltTy.packing .bf16) := fun v772 k0_hw46 => k0_hw46.2.2.2.2.1 (k0_off134_inb v772 k0_hw46)
theorem k0_off135_inb : ∀ (v772 : BitVec 32) (k0_hw46 : k0_chk46 v772), ∀ a, (k0_off135 v772) a + S1x512x512.size a ≤ S16x512x512.size a := fun v772 k0_hw46 => k0_hw46.2.2.2.2.2

def k0_off136 (v803 : BitVec 32) : Fin 2 → Nat :=
  let c512_i32_673 : BitVec 32 := 512#32
  let v804 : BitVec 32 := Scalar.muli v803 c512_i32_673
  let c0_i32_678 : BitVec 32 := 0#32
  ![v804.toNat, 0]

def k0_off137 (v803 : BitVec 32) : Fin 1 → Nat :=
  ![v803.toNat]
def k0_off138 (v803 : BitVec 32) : Fin 3 → Nat :=
  let c0_i32_683 : BitVec 32 := 0#32
  let c0_i32_684 : BitVec 32 := 0#32
  ![v803.toNat, 0, 0]
def k0_off139 (v803 : BitVec 32) : Fin 3 → Nat :=
  let v817 : Index := Scalar.indexCast v803
  let c0_687 : Index := 0#32
  let c0_688 : Index := 0#32
  ![v817.toNat, 0, 0]

def k0_chk47 (v803 : BitVec 32) : Prop :=
  (∀ a, (k0_off136 v803) a + S512x4096.size a ≤ S8192x4096.size a) ∧
  (∀ (hinb : ∀ a, (k0_off136 v803) a + S512x4096.size a ≤ S8192x4096.size a), (Rect.unit (s := S8192x4096) (k0_off136 v803) S512x4096.size hinb).WholeWords (EltTy.packing .bf16)) ∧
  (∀ a, (k0_off137 v803) a + S1.size a ≤ S16.size a) ∧
  (∀ a, (k0_off138 v803) a + S1x512x512.size a ≤ S16x512x512.size a) ∧
  (∀ (hinb : ∀ a, (k0_off138 v803) a + S1x512x512.size a ≤ S16x512x512.size a), (Rect.unit (s := S16x512x512) (k0_off138 v803) S1x512x512.size hinb).WholeWords (EltTy.packing .bf16)) ∧
  (∀ a, (k0_off139 v803) a + S1x512x512.size a ≤ S16x512x512.size a)
theorem k0_off136_inb : ∀ (v803 : BitVec 32) (k0_hw47 : k0_chk47 v803), ∀ a, (k0_off136 v803) a + S512x4096.size a ≤ S8192x4096.size a := fun v803 k0_hw47 => k0_hw47.1
theorem k0_off136_wordsbf16 : ∀ (v803 : BitVec 32) (k0_hw47 : k0_chk47 v803), (Rect.unit (s := S8192x4096) (k0_off136 v803) S512x4096.size (k0_off136_inb v803 k0_hw47)).WholeWords (EltTy.packing .bf16) := fun v803 k0_hw47 => k0_hw47.2.1 (k0_off136_inb v803 k0_hw47)
theorem k0_off137_inb : ∀ (v803 : BitVec 32) (k0_hw47 : k0_chk47 v803), ∀ a, (k0_off137 v803) a + S1.size a ≤ S16.size a := fun v803 k0_hw47 => k0_hw47.2.2.1
theorem k0_off138_inb : ∀ (v803 : BitVec 32) (k0_hw47 : k0_chk47 v803), ∀ a, (k0_off138 v803) a + S1x512x512.size a ≤ S16x512x512.size a := fun v803 k0_hw47 => k0_hw47.2.2.2.1
theorem k0_off138_wordsbf16 : ∀ (v803 : BitVec 32) (k0_hw47 : k0_chk47 v803), (Rect.unit (s := S16x512x512) (k0_off138 v803) S1x512x512.size (k0_off138_inb v803 k0_hw47)).WholeWords (EltTy.packing .bf16) := fun v803 k0_hw47 => k0_hw47.2.2.2.2.1 (k0_off138_inb v803 k0_hw47)
theorem k0_off139_inb : ∀ (v803 : BitVec 32) (k0_hw47 : k0_chk47 v803), ∀ a, (k0_off139 v803) a + S1x512x512.size a ≤ S16x512x512.size a := fun v803 k0_hw47 => k0_hw47.2.2.2.2.2

def k0_off140 (v64 : BitVec 32) : Fin 2 → Nat :=
  let c512_i32 : BitVec 32 := 512#32
  let v65 : BitVec 32 := Scalar.muli v64 c512_i32
  let c0_i32_699 : BitVec 32 := 0#32
  ![v65.toNat, 0]
def k0_off141 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_700 : BitVec 32 := 0#32
  let c0_i32_701 : BitVec 32 := 0#32
  ![v2.toNat, 0, 0]

def k0_chk1 (v64 : BitVec 32) : Prop :=
  (∀ a, (k0_off1 v64) a + S512x512.size a ≤ S8192x512.size a) ∧
  (∀ (hinb : ∀ a, (k0_off1 v64) a + S512x512.size a ≤ S8192x512.size a), (Rect.unit (s := S8192x512) (k0_off1 v64) S512x512.size hinb).PackedRows (EltTy.packing .bf16)) ∧
  (∀ a, (k0_off4 v64) a + S512x512.size a ≤ S8192x512.size a) ∧
  (∀ (hinb : ∀ a, (k0_off4 v64) a + S512x512.size a ≤ S8192x512.size a), (Rect.unit (s := S8192x512) (k0_off4 v64) S512x512.size hinb).WholeWords (EltTy.packing .bf16)) ∧
  ((k0_dev16 v64) < nD) ∧
  (∀ a, (k0_off140 v64) a + S512x512.size a ≤ S8192x512.size a) ∧
  (∀ (hinb : ∀ a, (k0_off140 v64) a + S512x512.size a ≤ S8192x512.size a), (Rect.unit (s := S8192x512) (k0_off140 v64) S512x512.size hinb).WholeWords (EltTy.packing .bf16))
theorem k0_off1_inb : ∀ (v64 : BitVec 32) (k0_hw1 : k0_chk1 v64), ∀ a, (k0_off1 v64) a + S512x512.size a ≤ S8192x512.size a := fun v64 k0_hw1 => k0_hw1.1
theorem k0_off1_packedbf16 : ∀ (v64 : BitVec 32) (k0_hw1 : k0_chk1 v64), (Rect.unit (s := S8192x512) (k0_off1 v64) S512x512.size (k0_off1_inb v64 k0_hw1)).PackedRows (EltTy.packing .bf16) := fun v64 k0_hw1 => k0_hw1.2.1 (k0_off1_inb v64 k0_hw1)
theorem k0_off4_inb : ∀ (v64 : BitVec 32) (k0_hw1 : k0_chk1 v64), ∀ a, (k0_off4 v64) a + S512x512.size a ≤ S8192x512.size a := fun v64 k0_hw1 => k0_hw1.2.2.1
theorem k0_off4_wordsbf16 : ∀ (v64 : BitVec 32) (k0_hw1 : k0_chk1 v64), (Rect.unit (s := S8192x512) (k0_off4 v64) S512x512.size (k0_off4_inb v64 k0_hw1)).WholeWords (EltTy.packing .bf16) := fun v64 k0_hw1 => k0_hw1.2.2.2.1 (k0_off4_inb v64 k0_hw1)
theorem k0_dev16_lt : ∀ (v64 : BitVec 32) (k0_hw1 : k0_chk1 v64), (k0_dev16 v64) < nD := fun v64 k0_hw1 => k0_hw1.2.2.2.2.1
theorem k0_off140_inb : ∀ (v64 : BitVec 32) (k0_hw1 : k0_chk1 v64), ∀ a, (k0_off140 v64) a + S512x512.size a ≤ S8192x512.size a := fun v64 k0_hw1 => k0_hw1.2.2.2.2.2.1
theorem k0_off140_wordsbf16 : ∀ (v64 : BitVec 32) (k0_hw1 : k0_chk1 v64), (Rect.unit (s := S8192x512) (k0_off140 v64) S512x512.size (k0_off140_inb v64 k0_hw1)).WholeWords (EltTy.packing .bf16) := fun v64 k0_hw1 => k0_hw1.2.2.2.2.2.2 (k0_off140_inb v64 k0_hw1)

def k0_off142 (v82 : BitVec 32) : Fin 2 → Nat :=
  let c512_i32_68 : BitVec 32 := 512#32
  let v83 : BitVec 32 := Scalar.muli v82 c512_i32_68
  let c0_i32_704 : BitVec 32 := 0#32
  ![v83.toNat, 0]

def k0_chk2 (v82 : BitVec 32) : Prop :=
  (∀ a, (k0_off5 v82) a + S512x512.size a ≤ S8192x512.size a) ∧
  (∀ (hinb : ∀ a, (k0_off5 v82) a + S512x512.size a ≤ S8192x512.size a), (Rect.unit (s := S8192x512) (k0_off5 v82) S512x512.size hinb).PackedRows (EltTy.packing .bf16)) ∧
  (∀ a, (k0_off8 v82) a + S512x512.size a ≤ S8192x512.size a) ∧
  (∀ (hinb : ∀ a, (k0_off8 v82) a + S512x512.size a ≤ S8192x512.size a), (Rect.unit (s := S8192x512) (k0_off8 v82) S512x512.size hinb).WholeWords (EltTy.packing .bf16)) ∧
  ((k0_dev17 v82) < nD) ∧
  (∀ a, (k0_off142 v82) a + S512x512.size a ≤ S8192x512.size a) ∧
  (∀ (hinb : ∀ a, (k0_off142 v82) a + S512x512.size a ≤ S8192x512.size a), (Rect.unit (s := S8192x512) (k0_off142 v82) S512x512.size hinb).WholeWords (EltTy.packing .bf16))
theorem k0_off5_inb : ∀ (v82 : BitVec 32) (k0_hw2 : k0_chk2 v82), ∀ a, (k0_off5 v82) a + S512x512.size a ≤ S8192x512.size a := fun v82 k0_hw2 => k0_hw2.1
theorem k0_off5_packedbf16 : ∀ (v82 : BitVec 32) (k0_hw2 : k0_chk2 v82), (Rect.unit (s := S8192x512) (k0_off5 v82) S512x512.size (k0_off5_inb v82 k0_hw2)).PackedRows (EltTy.packing .bf16) := fun v82 k0_hw2 => k0_hw2.2.1 (k0_off5_inb v82 k0_hw2)
theorem k0_off8_inb : ∀ (v82 : BitVec 32) (k0_hw2 : k0_chk2 v82), ∀ a, (k0_off8 v82) a + S512x512.size a ≤ S8192x512.size a := fun v82 k0_hw2 => k0_hw2.2.2.1
theorem k0_off8_wordsbf16 : ∀ (v82 : BitVec 32) (k0_hw2 : k0_chk2 v82), (Rect.unit (s := S8192x512) (k0_off8 v82) S512x512.size (k0_off8_inb v82 k0_hw2)).WholeWords (EltTy.packing .bf16) := fun v82 k0_hw2 => k0_hw2.2.2.2.1 (k0_off8_inb v82 k0_hw2)
theorem k0_dev17_lt : ∀ (v82 : BitVec 32) (k0_hw2 : k0_chk2 v82), (k0_dev17 v82) < nD := fun v82 k0_hw2 => k0_hw2.2.2.2.2.1
theorem k0_off142_inb : ∀ (v82 : BitVec 32) (k0_hw2 : k0_chk2 v82), ∀ a, (k0_off142 v82) a + S512x512.size a ≤ S8192x512.size a := fun v82 k0_hw2 => k0_hw2.2.2.2.2.2.1
theorem k0_off142_wordsbf16 : ∀ (v82 : BitVec 32) (k0_hw2 : k0_chk2 v82), (Rect.unit (s := S8192x512) (k0_off142 v82) S512x512.size (k0_off142_inb v82 k0_hw2)).WholeWords (EltTy.packing .bf16) := fun v82 k0_hw2 => k0_hw2.2.2.2.2.2.2 (k0_off142_inb v82 k0_hw2)

def k0_off143 (v100 : BitVec 32) : Fin 2 → Nat :=
  let c512_i32_77 : BitVec 32 := 512#32
  let v101 : BitVec 32 := Scalar.muli v100 c512_i32_77
  let c0_i32_709 : BitVec 32 := 0#32
  ![v101.toNat, 0]

def k0_chk3 (v100 : BitVec 32) : Prop :=
  (∀ a, (k0_off9 v100) a + S512x512.size a ≤ S8192x512.size a) ∧
  (∀ (hinb : ∀ a, (k0_off9 v100) a + S512x512.size a ≤ S8192x512.size a), (Rect.unit (s := S8192x512) (k0_off9 v100) S512x512.size hinb).PackedRows (EltTy.packing .bf16)) ∧
  (∀ a, (k0_off12 v100) a + S512x512.size a ≤ S8192x512.size a) ∧
  (∀ (hinb : ∀ a, (k0_off12 v100) a + S512x512.size a ≤ S8192x512.size a), (Rect.unit (s := S8192x512) (k0_off12 v100) S512x512.size hinb).WholeWords (EltTy.packing .bf16)) ∧
  ((k0_dev18 v100) < nD) ∧
  (∀ a, (k0_off143 v100) a + S512x512.size a ≤ S8192x512.size a) ∧
  (∀ (hinb : ∀ a, (k0_off143 v100) a + S512x512.size a ≤ S8192x512.size a), (Rect.unit (s := S8192x512) (k0_off143 v100) S512x512.size hinb).WholeWords (EltTy.packing .bf16))
theorem k0_off9_inb : ∀ (v100 : BitVec 32) (k0_hw3 : k0_chk3 v100), ∀ a, (k0_off9 v100) a + S512x512.size a ≤ S8192x512.size a := fun v100 k0_hw3 => k0_hw3.1
theorem k0_off9_packedbf16 : ∀ (v100 : BitVec 32) (k0_hw3 : k0_chk3 v100), (Rect.unit (s := S8192x512) (k0_off9 v100) S512x512.size (k0_off9_inb v100 k0_hw3)).PackedRows (EltTy.packing .bf16) := fun v100 k0_hw3 => k0_hw3.2.1 (k0_off9_inb v100 k0_hw3)
theorem k0_off12_inb : ∀ (v100 : BitVec 32) (k0_hw3 : k0_chk3 v100), ∀ a, (k0_off12 v100) a + S512x512.size a ≤ S8192x512.size a := fun v100 k0_hw3 => k0_hw3.2.2.1
theorem k0_off12_wordsbf16 : ∀ (v100 : BitVec 32) (k0_hw3 : k0_chk3 v100), (Rect.unit (s := S8192x512) (k0_off12 v100) S512x512.size (k0_off12_inb v100 k0_hw3)).WholeWords (EltTy.packing .bf16) := fun v100 k0_hw3 => k0_hw3.2.2.2.1 (k0_off12_inb v100 k0_hw3)
theorem k0_dev18_lt : ∀ (v100 : BitVec 32) (k0_hw3 : k0_chk3 v100), (k0_dev18 v100) < nD := fun v100 k0_hw3 => k0_hw3.2.2.2.2.1
theorem k0_off143_inb : ∀ (v100 : BitVec 32) (k0_hw3 : k0_chk3 v100), ∀ a, (k0_off143 v100) a + S512x512.size a ≤ S8192x512.size a := fun v100 k0_hw3 => k0_hw3.2.2.2.2.2.1
theorem k0_off143_wordsbf16 : ∀ (v100 : BitVec 32) (k0_hw3 : k0_chk3 v100), (Rect.unit (s := S8192x512) (k0_off143 v100) S512x512.size (k0_off143_inb v100 k0_hw3)).WholeWords (EltTy.packing .bf16) := fun v100 k0_hw3 => k0_hw3.2.2.2.2.2.2 (k0_off143_inb v100 k0_hw3)

def k0_off144 (v118 : BitVec 32) : Fin 2 → Nat :=
  let c512_i32_86 : BitVec 32 := 512#32
  let v119 : BitVec 32 := Scalar.muli v118 c512_i32_86
  let c0_i32_714 : BitVec 32 := 0#32
  ![v119.toNat, 0]

def k0_chk4 (v118 : BitVec 32) : Prop :=
  (∀ a, (k0_off13 v118) a + S512x512.size a ≤ S8192x512.size a) ∧
  (∀ (hinb : ∀ a, (k0_off13 v118) a + S512x512.size a ≤ S8192x512.size a), (Rect.unit (s := S8192x512) (k0_off13 v118) S512x512.size hinb).PackedRows (EltTy.packing .bf16)) ∧
  (∀ a, (k0_off16 v118) a + S512x512.size a ≤ S8192x512.size a) ∧
  (∀ (hinb : ∀ a, (k0_off16 v118) a + S512x512.size a ≤ S8192x512.size a), (Rect.unit (s := S8192x512) (k0_off16 v118) S512x512.size hinb).WholeWords (EltTy.packing .bf16)) ∧
  ((k0_dev19 v118) < nD) ∧
  (∀ a, (k0_off144 v118) a + S512x512.size a ≤ S8192x512.size a) ∧
  (∀ (hinb : ∀ a, (k0_off144 v118) a + S512x512.size a ≤ S8192x512.size a), (Rect.unit (s := S8192x512) (k0_off144 v118) S512x512.size hinb).WholeWords (EltTy.packing .bf16))
theorem k0_off13_inb : ∀ (v118 : BitVec 32) (k0_hw4 : k0_chk4 v118), ∀ a, (k0_off13 v118) a + S512x512.size a ≤ S8192x512.size a := fun v118 k0_hw4 => k0_hw4.1
theorem k0_off13_packedbf16 : ∀ (v118 : BitVec 32) (k0_hw4 : k0_chk4 v118), (Rect.unit (s := S8192x512) (k0_off13 v118) S512x512.size (k0_off13_inb v118 k0_hw4)).PackedRows (EltTy.packing .bf16) := fun v118 k0_hw4 => k0_hw4.2.1 (k0_off13_inb v118 k0_hw4)
theorem k0_off16_inb : ∀ (v118 : BitVec 32) (k0_hw4 : k0_chk4 v118), ∀ a, (k0_off16 v118) a + S512x512.size a ≤ S8192x512.size a := fun v118 k0_hw4 => k0_hw4.2.2.1
theorem k0_off16_wordsbf16 : ∀ (v118 : BitVec 32) (k0_hw4 : k0_chk4 v118), (Rect.unit (s := S8192x512) (k0_off16 v118) S512x512.size (k0_off16_inb v118 k0_hw4)).WholeWords (EltTy.packing .bf16) := fun v118 k0_hw4 => k0_hw4.2.2.2.1 (k0_off16_inb v118 k0_hw4)
theorem k0_dev19_lt : ∀ (v118 : BitVec 32) (k0_hw4 : k0_chk4 v118), (k0_dev19 v118) < nD := fun v118 k0_hw4 => k0_hw4.2.2.2.2.1
theorem k0_off144_inb : ∀ (v118 : BitVec 32) (k0_hw4 : k0_chk4 v118), ∀ a, (k0_off144 v118) a + S512x512.size a ≤ S8192x512.size a := fun v118 k0_hw4 => k0_hw4.2.2.2.2.2.1
theorem k0_off144_wordsbf16 : ∀ (v118 : BitVec 32) (k0_hw4 : k0_chk4 v118), (Rect.unit (s := S8192x512) (k0_off144 v118) S512x512.size (k0_off144_inb v118 k0_hw4)).WholeWords (EltTy.packing .bf16) := fun v118 k0_hw4 => k0_hw4.2.2.2.2.2.2 (k0_off144_inb v118 k0_hw4)

def k0_off145 (v136 : BitVec 32) : Fin 2 → Nat :=
  let c512_i32_95 : BitVec 32 := 512#32
  let v137 : BitVec 32 := Scalar.muli v136 c512_i32_95
  let c0_i32_719 : BitVec 32 := 0#32
  ![v137.toNat, 0]

def k0_chk5 (v136 : BitVec 32) : Prop :=
  (∀ a, (k0_off17 v136) a + S512x512.size a ≤ S8192x512.size a) ∧
  (∀ (hinb : ∀ a, (k0_off17 v136) a + S512x512.size a ≤ S8192x512.size a), (Rect.unit (s := S8192x512) (k0_off17 v136) S512x512.size hinb).PackedRows (EltTy.packing .bf16)) ∧
  (∀ a, (k0_off20 v136) a + S512x512.size a ≤ S8192x512.size a) ∧
  (∀ (hinb : ∀ a, (k0_off20 v136) a + S512x512.size a ≤ S8192x512.size a), (Rect.unit (s := S8192x512) (k0_off20 v136) S512x512.size hinb).WholeWords (EltTy.packing .bf16)) ∧
  ((k0_dev20 v136) < nD) ∧
  (∀ a, (k0_off145 v136) a + S512x512.size a ≤ S8192x512.size a) ∧
  (∀ (hinb : ∀ a, (k0_off145 v136) a + S512x512.size a ≤ S8192x512.size a), (Rect.unit (s := S8192x512) (k0_off145 v136) S512x512.size hinb).WholeWords (EltTy.packing .bf16))
theorem k0_off17_inb : ∀ (v136 : BitVec 32) (k0_hw5 : k0_chk5 v136), ∀ a, (k0_off17 v136) a + S512x512.size a ≤ S8192x512.size a := fun v136 k0_hw5 => k0_hw5.1
theorem k0_off17_packedbf16 : ∀ (v136 : BitVec 32) (k0_hw5 : k0_chk5 v136), (Rect.unit (s := S8192x512) (k0_off17 v136) S512x512.size (k0_off17_inb v136 k0_hw5)).PackedRows (EltTy.packing .bf16) := fun v136 k0_hw5 => k0_hw5.2.1 (k0_off17_inb v136 k0_hw5)
theorem k0_off20_inb : ∀ (v136 : BitVec 32) (k0_hw5 : k0_chk5 v136), ∀ a, (k0_off20 v136) a + S512x512.size a ≤ S8192x512.size a := fun v136 k0_hw5 => k0_hw5.2.2.1
theorem k0_off20_wordsbf16 : ∀ (v136 : BitVec 32) (k0_hw5 : k0_chk5 v136), (Rect.unit (s := S8192x512) (k0_off20 v136) S512x512.size (k0_off20_inb v136 k0_hw5)).WholeWords (EltTy.packing .bf16) := fun v136 k0_hw5 => k0_hw5.2.2.2.1 (k0_off20_inb v136 k0_hw5)
theorem k0_dev20_lt : ∀ (v136 : BitVec 32) (k0_hw5 : k0_chk5 v136), (k0_dev20 v136) < nD := fun v136 k0_hw5 => k0_hw5.2.2.2.2.1
theorem k0_off145_inb : ∀ (v136 : BitVec 32) (k0_hw5 : k0_chk5 v136), ∀ a, (k0_off145 v136) a + S512x512.size a ≤ S8192x512.size a := fun v136 k0_hw5 => k0_hw5.2.2.2.2.2.1
theorem k0_off145_wordsbf16 : ∀ (v136 : BitVec 32) (k0_hw5 : k0_chk5 v136), (Rect.unit (s := S8192x512) (k0_off145 v136) S512x512.size (k0_off145_inb v136 k0_hw5)).WholeWords (EltTy.packing .bf16) := fun v136 k0_hw5 => k0_hw5.2.2.2.2.2.2 (k0_off145_inb v136 k0_hw5)

def k0_off146 (v154 : BitVec 32) : Fin 2 → Nat :=
  let c512_i32_104 : BitVec 32 := 512#32
  let v155 : BitVec 32 := Scalar.muli v154 c512_i32_104
  let c0_i32_724 : BitVec 32 := 0#32
  ![v155.toNat, 0]

def k0_chk6 (v154 : BitVec 32) : Prop :=
  (∀ a, (k0_off21 v154) a + S512x512.size a ≤ S8192x512.size a) ∧
  (∀ (hinb : ∀ a, (k0_off21 v154) a + S512x512.size a ≤ S8192x512.size a), (Rect.unit (s := S8192x512) (k0_off21 v154) S512x512.size hinb).PackedRows (EltTy.packing .bf16)) ∧
  (∀ a, (k0_off24 v154) a + S512x512.size a ≤ S8192x512.size a) ∧
  (∀ (hinb : ∀ a, (k0_off24 v154) a + S512x512.size a ≤ S8192x512.size a), (Rect.unit (s := S8192x512) (k0_off24 v154) S512x512.size hinb).WholeWords (EltTy.packing .bf16)) ∧
  ((k0_dev21 v154) < nD) ∧
  (∀ a, (k0_off146 v154) a + S512x512.size a ≤ S8192x512.size a) ∧
  (∀ (hinb : ∀ a, (k0_off146 v154) a + S512x512.size a ≤ S8192x512.size a), (Rect.unit (s := S8192x512) (k0_off146 v154) S512x512.size hinb).WholeWords (EltTy.packing .bf16))
theorem k0_off21_inb : ∀ (v154 : BitVec 32) (k0_hw6 : k0_chk6 v154), ∀ a, (k0_off21 v154) a + S512x512.size a ≤ S8192x512.size a := fun v154 k0_hw6 => k0_hw6.1
theorem k0_off21_packedbf16 : ∀ (v154 : BitVec 32) (k0_hw6 : k0_chk6 v154), (Rect.unit (s := S8192x512) (k0_off21 v154) S512x512.size (k0_off21_inb v154 k0_hw6)).PackedRows (EltTy.packing .bf16) := fun v154 k0_hw6 => k0_hw6.2.1 (k0_off21_inb v154 k0_hw6)
theorem k0_off24_inb : ∀ (v154 : BitVec 32) (k0_hw6 : k0_chk6 v154), ∀ a, (k0_off24 v154) a + S512x512.size a ≤ S8192x512.size a := fun v154 k0_hw6 => k0_hw6.2.2.1
theorem k0_off24_wordsbf16 : ∀ (v154 : BitVec 32) (k0_hw6 : k0_chk6 v154), (Rect.unit (s := S8192x512) (k0_off24 v154) S512x512.size (k0_off24_inb v154 k0_hw6)).WholeWords (EltTy.packing .bf16) := fun v154 k0_hw6 => k0_hw6.2.2.2.1 (k0_off24_inb v154 k0_hw6)
theorem k0_dev21_lt : ∀ (v154 : BitVec 32) (k0_hw6 : k0_chk6 v154), (k0_dev21 v154) < nD := fun v154 k0_hw6 => k0_hw6.2.2.2.2.1
theorem k0_off146_inb : ∀ (v154 : BitVec 32) (k0_hw6 : k0_chk6 v154), ∀ a, (k0_off146 v154) a + S512x512.size a ≤ S8192x512.size a := fun v154 k0_hw6 => k0_hw6.2.2.2.2.2.1
theorem k0_off146_wordsbf16 : ∀ (v154 : BitVec 32) (k0_hw6 : k0_chk6 v154), (Rect.unit (s := S8192x512) (k0_off146 v154) S512x512.size (k0_off146_inb v154 k0_hw6)).WholeWords (EltTy.packing .bf16) := fun v154 k0_hw6 => k0_hw6.2.2.2.2.2.2 (k0_off146_inb v154 k0_hw6)

def k0_off147 (v172 : BitVec 32) : Fin 2 → Nat :=
  let c512_i32_113 : BitVec 32 := 512#32
  let v173 : BitVec 32 := Scalar.muli v172 c512_i32_113
  let c0_i32_729 : BitVec 32 := 0#32
  ![v173.toNat, 0]

def k0_chk7 (v172 : BitVec 32) : Prop :=
  (∀ a, (k0_off25 v172) a + S512x512.size a ≤ S8192x512.size a) ∧
  (∀ (hinb : ∀ a, (k0_off25 v172) a + S512x512.size a ≤ S8192x512.size a), (Rect.unit (s := S8192x512) (k0_off25 v172) S512x512.size hinb).PackedRows (EltTy.packing .bf16)) ∧
  (∀ a, (k0_off28 v172) a + S512x512.size a ≤ S8192x512.size a) ∧
  (∀ (hinb : ∀ a, (k0_off28 v172) a + S512x512.size a ≤ S8192x512.size a), (Rect.unit (s := S8192x512) (k0_off28 v172) S512x512.size hinb).WholeWords (EltTy.packing .bf16)) ∧
  ((k0_dev22 v172) < nD) ∧
  (∀ a, (k0_off147 v172) a + S512x512.size a ≤ S8192x512.size a) ∧
  (∀ (hinb : ∀ a, (k0_off147 v172) a + S512x512.size a ≤ S8192x512.size a), (Rect.unit (s := S8192x512) (k0_off147 v172) S512x512.size hinb).WholeWords (EltTy.packing .bf16))
theorem k0_off25_inb : ∀ (v172 : BitVec 32) (k0_hw7 : k0_chk7 v172), ∀ a, (k0_off25 v172) a + S512x512.size a ≤ S8192x512.size a := fun v172 k0_hw7 => k0_hw7.1
theorem k0_off25_packedbf16 : ∀ (v172 : BitVec 32) (k0_hw7 : k0_chk7 v172), (Rect.unit (s := S8192x512) (k0_off25 v172) S512x512.size (k0_off25_inb v172 k0_hw7)).PackedRows (EltTy.packing .bf16) := fun v172 k0_hw7 => k0_hw7.2.1 (k0_off25_inb v172 k0_hw7)
theorem k0_off28_inb : ∀ (v172 : BitVec 32) (k0_hw7 : k0_chk7 v172), ∀ a, (k0_off28 v172) a + S512x512.size a ≤ S8192x512.size a := fun v172 k0_hw7 => k0_hw7.2.2.1
theorem k0_off28_wordsbf16 : ∀ (v172 : BitVec 32) (k0_hw7 : k0_chk7 v172), (Rect.unit (s := S8192x512) (k0_off28 v172) S512x512.size (k0_off28_inb v172 k0_hw7)).WholeWords (EltTy.packing .bf16) := fun v172 k0_hw7 => k0_hw7.2.2.2.1 (k0_off28_inb v172 k0_hw7)
theorem k0_dev22_lt : ∀ (v172 : BitVec 32) (k0_hw7 : k0_chk7 v172), (k0_dev22 v172) < nD := fun v172 k0_hw7 => k0_hw7.2.2.2.2.1
theorem k0_off147_inb : ∀ (v172 : BitVec 32) (k0_hw7 : k0_chk7 v172), ∀ a, (k0_off147 v172) a + S512x512.size a ≤ S8192x512.size a := fun v172 k0_hw7 => k0_hw7.2.2.2.2.2.1
theorem k0_off147_wordsbf16 : ∀ (v172 : BitVec 32) (k0_hw7 : k0_chk7 v172), (Rect.unit (s := S8192x512) (k0_off147 v172) S512x512.size (k0_off147_inb v172 k0_hw7)).WholeWords (EltTy.packing .bf16) := fun v172 k0_hw7 => k0_hw7.2.2.2.2.2.2 (k0_off147_inb v172 k0_hw7)

def k0_off148 (v190 : BitVec 32) : Fin 2 → Nat :=
  let c512_i32_122 : BitVec 32 := 512#32
  let v191 : BitVec 32 := Scalar.muli v190 c512_i32_122
  let c0_i32_734 : BitVec 32 := 0#32
  ![v191.toNat, 0]

def k0_chk8 (v190 : BitVec 32) : Prop :=
  (∀ a, (k0_off29 v190) a + S512x512.size a ≤ S8192x512.size a) ∧
  (∀ (hinb : ∀ a, (k0_off29 v190) a + S512x512.size a ≤ S8192x512.size a), (Rect.unit (s := S8192x512) (k0_off29 v190) S512x512.size hinb).PackedRows (EltTy.packing .bf16)) ∧
  (∀ a, (k0_off32 v190) a + S512x512.size a ≤ S8192x512.size a) ∧
  (∀ (hinb : ∀ a, (k0_off32 v190) a + S512x512.size a ≤ S8192x512.size a), (Rect.unit (s := S8192x512) (k0_off32 v190) S512x512.size hinb).WholeWords (EltTy.packing .bf16)) ∧
  ((k0_dev23 v190) < nD) ∧
  (∀ a, (k0_off148 v190) a + S512x512.size a ≤ S8192x512.size a) ∧
  (∀ (hinb : ∀ a, (k0_off148 v190) a + S512x512.size a ≤ S8192x512.size a), (Rect.unit (s := S8192x512) (k0_off148 v190) S512x512.size hinb).WholeWords (EltTy.packing .bf16))
theorem k0_off29_inb : ∀ (v190 : BitVec 32) (k0_hw8 : k0_chk8 v190), ∀ a, (k0_off29 v190) a + S512x512.size a ≤ S8192x512.size a := fun v190 k0_hw8 => k0_hw8.1
theorem k0_off29_packedbf16 : ∀ (v190 : BitVec 32) (k0_hw8 : k0_chk8 v190), (Rect.unit (s := S8192x512) (k0_off29 v190) S512x512.size (k0_off29_inb v190 k0_hw8)).PackedRows (EltTy.packing .bf16) := fun v190 k0_hw8 => k0_hw8.2.1 (k0_off29_inb v190 k0_hw8)
theorem k0_off32_inb : ∀ (v190 : BitVec 32) (k0_hw8 : k0_chk8 v190), ∀ a, (k0_off32 v190) a + S512x512.size a ≤ S8192x512.size a := fun v190 k0_hw8 => k0_hw8.2.2.1
theorem k0_off32_wordsbf16 : ∀ (v190 : BitVec 32) (k0_hw8 : k0_chk8 v190), (Rect.unit (s := S8192x512) (k0_off32 v190) S512x512.size (k0_off32_inb v190 k0_hw8)).WholeWords (EltTy.packing .bf16) := fun v190 k0_hw8 => k0_hw8.2.2.2.1 (k0_off32_inb v190 k0_hw8)
theorem k0_dev23_lt : ∀ (v190 : BitVec 32) (k0_hw8 : k0_chk8 v190), (k0_dev23 v190) < nD := fun v190 k0_hw8 => k0_hw8.2.2.2.2.1
theorem k0_off148_inb : ∀ (v190 : BitVec 32) (k0_hw8 : k0_chk8 v190), ∀ a, (k0_off148 v190) a + S512x512.size a ≤ S8192x512.size a := fun v190 k0_hw8 => k0_hw8.2.2.2.2.2.1
theorem k0_off148_wordsbf16 : ∀ (v190 : BitVec 32) (k0_hw8 : k0_chk8 v190), (Rect.unit (s := S8192x512) (k0_off148 v190) S512x512.size (k0_off148_inb v190 k0_hw8)).WholeWords (EltTy.packing .bf16) := fun v190 k0_hw8 => k0_hw8.2.2.2.2.2.2 (k0_off148_inb v190 k0_hw8)

def k0_off149 (v208 : BitVec 32) : Fin 2 → Nat :=
  let c512_i32_131 : BitVec 32 := 512#32
  let v209 : BitVec 32 := Scalar.muli v208 c512_i32_131
  let c0_i32_739 : BitVec 32 := 0#32
  ![v209.toNat, 0]

def k0_chk9 (v208 : BitVec 32) : Prop :=
  (∀ a, (k0_off33 v208) a + S512x512.size a ≤ S8192x512.size a) ∧
  (∀ (hinb : ∀ a, (k0_off33 v208) a + S512x512.size a ≤ S8192x512.size a), (Rect.unit (s := S8192x512) (k0_off33 v208) S512x512.size hinb).PackedRows (EltTy.packing .bf16)) ∧
  (∀ a, (k0_off36 v208) a + S512x512.size a ≤ S8192x512.size a) ∧
  (∀ (hinb : ∀ a, (k0_off36 v208) a + S512x512.size a ≤ S8192x512.size a), (Rect.unit (s := S8192x512) (k0_off36 v208) S512x512.size hinb).WholeWords (EltTy.packing .bf16)) ∧
  ((k0_dev24 v208) < nD) ∧
  (∀ a, (k0_off149 v208) a + S512x512.size a ≤ S8192x512.size a) ∧
  (∀ (hinb : ∀ a, (k0_off149 v208) a + S512x512.size a ≤ S8192x512.size a), (Rect.unit (s := S8192x512) (k0_off149 v208) S512x512.size hinb).WholeWords (EltTy.packing .bf16))
theorem k0_off33_inb : ∀ (v208 : BitVec 32) (k0_hw9 : k0_chk9 v208), ∀ a, (k0_off33 v208) a + S512x512.size a ≤ S8192x512.size a := fun v208 k0_hw9 => k0_hw9.1
theorem k0_off33_packedbf16 : ∀ (v208 : BitVec 32) (k0_hw9 : k0_chk9 v208), (Rect.unit (s := S8192x512) (k0_off33 v208) S512x512.size (k0_off33_inb v208 k0_hw9)).PackedRows (EltTy.packing .bf16) := fun v208 k0_hw9 => k0_hw9.2.1 (k0_off33_inb v208 k0_hw9)
theorem k0_off36_inb : ∀ (v208 : BitVec 32) (k0_hw9 : k0_chk9 v208), ∀ a, (k0_off36 v208) a + S512x512.size a ≤ S8192x512.size a := fun v208 k0_hw9 => k0_hw9.2.2.1
theorem k0_off36_wordsbf16 : ∀ (v208 : BitVec 32) (k0_hw9 : k0_chk9 v208), (Rect.unit (s := S8192x512) (k0_off36 v208) S512x512.size (k0_off36_inb v208 k0_hw9)).WholeWords (EltTy.packing .bf16) := fun v208 k0_hw9 => k0_hw9.2.2.2.1 (k0_off36_inb v208 k0_hw9)
theorem k0_dev24_lt : ∀ (v208 : BitVec 32) (k0_hw9 : k0_chk9 v208), (k0_dev24 v208) < nD := fun v208 k0_hw9 => k0_hw9.2.2.2.2.1
theorem k0_off149_inb : ∀ (v208 : BitVec 32) (k0_hw9 : k0_chk9 v208), ∀ a, (k0_off149 v208) a + S512x512.size a ≤ S8192x512.size a := fun v208 k0_hw9 => k0_hw9.2.2.2.2.2.1
theorem k0_off149_wordsbf16 : ∀ (v208 : BitVec 32) (k0_hw9 : k0_chk9 v208), (Rect.unit (s := S8192x512) (k0_off149 v208) S512x512.size (k0_off149_inb v208 k0_hw9)).WholeWords (EltTy.packing .bf16) := fun v208 k0_hw9 => k0_hw9.2.2.2.2.2.2 (k0_off149_inb v208 k0_hw9)

def k0_off150 (v226 : BitVec 32) : Fin 2 → Nat :=
  let c512_i32_140 : BitVec 32 := 512#32
  let v227 : BitVec 32 := Scalar.muli v226 c512_i32_140
  let c0_i32_744 : BitVec 32 := 0#32
  ![v227.toNat, 0]

def k0_chk10 (v226 : BitVec 32) : Prop :=
  (∀ a, (k0_off37 v226) a + S512x512.size a ≤ S8192x512.size a) ∧
  (∀ (hinb : ∀ a, (k0_off37 v226) a + S512x512.size a ≤ S8192x512.size a), (Rect.unit (s := S8192x512) (k0_off37 v226) S512x512.size hinb).PackedRows (EltTy.packing .bf16)) ∧
  (∀ a, (k0_off40 v226) a + S512x512.size a ≤ S8192x512.size a) ∧
  (∀ (hinb : ∀ a, (k0_off40 v226) a + S512x512.size a ≤ S8192x512.size a), (Rect.unit (s := S8192x512) (k0_off40 v226) S512x512.size hinb).WholeWords (EltTy.packing .bf16)) ∧
  ((k0_dev25 v226) < nD) ∧
  (∀ a, (k0_off150 v226) a + S512x512.size a ≤ S8192x512.size a) ∧
  (∀ (hinb : ∀ a, (k0_off150 v226) a + S512x512.size a ≤ S8192x512.size a), (Rect.unit (s := S8192x512) (k0_off150 v226) S512x512.size hinb).WholeWords (EltTy.packing .bf16))
theorem k0_off37_inb : ∀ (v226 : BitVec 32) (k0_hw10 : k0_chk10 v226), ∀ a, (k0_off37 v226) a + S512x512.size a ≤ S8192x512.size a := fun v226 k0_hw10 => k0_hw10.1
theorem k0_off37_packedbf16 : ∀ (v226 : BitVec 32) (k0_hw10 : k0_chk10 v226), (Rect.unit (s := S8192x512) (k0_off37 v226) S512x512.size (k0_off37_inb v226 k0_hw10)).PackedRows (EltTy.packing .bf16) := fun v226 k0_hw10 => k0_hw10.2.1 (k0_off37_inb v226 k0_hw10)
theorem k0_off40_inb : ∀ (v226 : BitVec 32) (k0_hw10 : k0_chk10 v226), ∀ a, (k0_off40 v226) a + S512x512.size a ≤ S8192x512.size a := fun v226 k0_hw10 => k0_hw10.2.2.1
theorem k0_off40_wordsbf16 : ∀ (v226 : BitVec 32) (k0_hw10 : k0_chk10 v226), (Rect.unit (s := S8192x512) (k0_off40 v226) S512x512.size (k0_off40_inb v226 k0_hw10)).WholeWords (EltTy.packing .bf16) := fun v226 k0_hw10 => k0_hw10.2.2.2.1 (k0_off40_inb v226 k0_hw10)
theorem k0_dev25_lt : ∀ (v226 : BitVec 32) (k0_hw10 : k0_chk10 v226), (k0_dev25 v226) < nD := fun v226 k0_hw10 => k0_hw10.2.2.2.2.1
theorem k0_off150_inb : ∀ (v226 : BitVec 32) (k0_hw10 : k0_chk10 v226), ∀ a, (k0_off150 v226) a + S512x512.size a ≤ S8192x512.size a := fun v226 k0_hw10 => k0_hw10.2.2.2.2.2.1
theorem k0_off150_wordsbf16 : ∀ (v226 : BitVec 32) (k0_hw10 : k0_chk10 v226), (Rect.unit (s := S8192x512) (k0_off150 v226) S512x512.size (k0_off150_inb v226 k0_hw10)).WholeWords (EltTy.packing .bf16) := fun v226 k0_hw10 => k0_hw10.2.2.2.2.2.2 (k0_off150_inb v226 k0_hw10)

def k0_off151 (v244 : BitVec 32) : Fin 2 → Nat :=
  let c512_i32_149 : BitVec 32 := 512#32
  let v245 : BitVec 32 := Scalar.muli v244 c512_i32_149
  let c0_i32_749 : BitVec 32 := 0#32
  ![v245.toNat, 0]

def k0_chk11 (v244 : BitVec 32) : Prop :=
  (∀ a, (k0_off41 v244) a + S512x512.size a ≤ S8192x512.size a) ∧
  (∀ (hinb : ∀ a, (k0_off41 v244) a + S512x512.size a ≤ S8192x512.size a), (Rect.unit (s := S8192x512) (k0_off41 v244) S512x512.size hinb).PackedRows (EltTy.packing .bf16)) ∧
  (∀ a, (k0_off44 v244) a + S512x512.size a ≤ S8192x512.size a) ∧
  (∀ (hinb : ∀ a, (k0_off44 v244) a + S512x512.size a ≤ S8192x512.size a), (Rect.unit (s := S8192x512) (k0_off44 v244) S512x512.size hinb).WholeWords (EltTy.packing .bf16)) ∧
  ((k0_dev26 v244) < nD) ∧
  (∀ a, (k0_off151 v244) a + S512x512.size a ≤ S8192x512.size a) ∧
  (∀ (hinb : ∀ a, (k0_off151 v244) a + S512x512.size a ≤ S8192x512.size a), (Rect.unit (s := S8192x512) (k0_off151 v244) S512x512.size hinb).WholeWords (EltTy.packing .bf16))
theorem k0_off41_inb : ∀ (v244 : BitVec 32) (k0_hw11 : k0_chk11 v244), ∀ a, (k0_off41 v244) a + S512x512.size a ≤ S8192x512.size a := fun v244 k0_hw11 => k0_hw11.1
theorem k0_off41_packedbf16 : ∀ (v244 : BitVec 32) (k0_hw11 : k0_chk11 v244), (Rect.unit (s := S8192x512) (k0_off41 v244) S512x512.size (k0_off41_inb v244 k0_hw11)).PackedRows (EltTy.packing .bf16) := fun v244 k0_hw11 => k0_hw11.2.1 (k0_off41_inb v244 k0_hw11)
theorem k0_off44_inb : ∀ (v244 : BitVec 32) (k0_hw11 : k0_chk11 v244), ∀ a, (k0_off44 v244) a + S512x512.size a ≤ S8192x512.size a := fun v244 k0_hw11 => k0_hw11.2.2.1
theorem k0_off44_wordsbf16 : ∀ (v244 : BitVec 32) (k0_hw11 : k0_chk11 v244), (Rect.unit (s := S8192x512) (k0_off44 v244) S512x512.size (k0_off44_inb v244 k0_hw11)).WholeWords (EltTy.packing .bf16) := fun v244 k0_hw11 => k0_hw11.2.2.2.1 (k0_off44_inb v244 k0_hw11)
theorem k0_dev26_lt : ∀ (v244 : BitVec 32) (k0_hw11 : k0_chk11 v244), (k0_dev26 v244) < nD := fun v244 k0_hw11 => k0_hw11.2.2.2.2.1
theorem k0_off151_inb : ∀ (v244 : BitVec 32) (k0_hw11 : k0_chk11 v244), ∀ a, (k0_off151 v244) a + S512x512.size a ≤ S8192x512.size a := fun v244 k0_hw11 => k0_hw11.2.2.2.2.2.1
theorem k0_off151_wordsbf16 : ∀ (v244 : BitVec 32) (k0_hw11 : k0_chk11 v244), (Rect.unit (s := S8192x512) (k0_off151 v244) S512x512.size (k0_off151_inb v244 k0_hw11)).WholeWords (EltTy.packing .bf16) := fun v244 k0_hw11 => k0_hw11.2.2.2.2.2.2 (k0_off151_inb v244 k0_hw11)

def k0_off152 (v262 : BitVec 32) : Fin 2 → Nat :=
  let c512_i32_158 : BitVec 32 := 512#32
  let v263 : BitVec 32 := Scalar.muli v262 c512_i32_158
  let c0_i32_754 : BitVec 32 := 0#32
  ![v263.toNat, 0]

def k0_chk12 (v262 : BitVec 32) : Prop :=
  (∀ a, (k0_off45 v262) a + S512x512.size a ≤ S8192x512.size a) ∧
  (∀ (hinb : ∀ a, (k0_off45 v262) a + S512x512.size a ≤ S8192x512.size a), (Rect.unit (s := S8192x512) (k0_off45 v262) S512x512.size hinb).PackedRows (EltTy.packing .bf16)) ∧
  (∀ a, (k0_off48 v262) a + S512x512.size a ≤ S8192x512.size a) ∧
  (∀ (hinb : ∀ a, (k0_off48 v262) a + S512x512.size a ≤ S8192x512.size a), (Rect.unit (s := S8192x512) (k0_off48 v262) S512x512.size hinb).WholeWords (EltTy.packing .bf16)) ∧
  ((k0_dev27 v262) < nD) ∧
  (∀ a, (k0_off152 v262) a + S512x512.size a ≤ S8192x512.size a) ∧
  (∀ (hinb : ∀ a, (k0_off152 v262) a + S512x512.size a ≤ S8192x512.size a), (Rect.unit (s := S8192x512) (k0_off152 v262) S512x512.size hinb).WholeWords (EltTy.packing .bf16))
theorem k0_off45_inb : ∀ (v262 : BitVec 32) (k0_hw12 : k0_chk12 v262), ∀ a, (k0_off45 v262) a + S512x512.size a ≤ S8192x512.size a := fun v262 k0_hw12 => k0_hw12.1
theorem k0_off45_packedbf16 : ∀ (v262 : BitVec 32) (k0_hw12 : k0_chk12 v262), (Rect.unit (s := S8192x512) (k0_off45 v262) S512x512.size (k0_off45_inb v262 k0_hw12)).PackedRows (EltTy.packing .bf16) := fun v262 k0_hw12 => k0_hw12.2.1 (k0_off45_inb v262 k0_hw12)
theorem k0_off48_inb : ∀ (v262 : BitVec 32) (k0_hw12 : k0_chk12 v262), ∀ a, (k0_off48 v262) a + S512x512.size a ≤ S8192x512.size a := fun v262 k0_hw12 => k0_hw12.2.2.1
theorem k0_off48_wordsbf16 : ∀ (v262 : BitVec 32) (k0_hw12 : k0_chk12 v262), (Rect.unit (s := S8192x512) (k0_off48 v262) S512x512.size (k0_off48_inb v262 k0_hw12)).WholeWords (EltTy.packing .bf16) := fun v262 k0_hw12 => k0_hw12.2.2.2.1 (k0_off48_inb v262 k0_hw12)
theorem k0_dev27_lt : ∀ (v262 : BitVec 32) (k0_hw12 : k0_chk12 v262), (k0_dev27 v262) < nD := fun v262 k0_hw12 => k0_hw12.2.2.2.2.1
theorem k0_off152_inb : ∀ (v262 : BitVec 32) (k0_hw12 : k0_chk12 v262), ∀ a, (k0_off152 v262) a + S512x512.size a ≤ S8192x512.size a := fun v262 k0_hw12 => k0_hw12.2.2.2.2.2.1
theorem k0_off152_wordsbf16 : ∀ (v262 : BitVec 32) (k0_hw12 : k0_chk12 v262), (Rect.unit (s := S8192x512) (k0_off152 v262) S512x512.size (k0_off152_inb v262 k0_hw12)).WholeWords (EltTy.packing .bf16) := fun v262 k0_hw12 => k0_hw12.2.2.2.2.2.2 (k0_off152_inb v262 k0_hw12)

def k0_off153 (v280 : BitVec 32) : Fin 2 → Nat :=
  let c512_i32_167 : BitVec 32 := 512#32
  let v281 : BitVec 32 := Scalar.muli v280 c512_i32_167
  let c0_i32_759 : BitVec 32 := 0#32
  ![v281.toNat, 0]

def k0_chk13 (v280 : BitVec 32) : Prop :=
  (∀ a, (k0_off49 v280) a + S512x512.size a ≤ S8192x512.size a) ∧
  (∀ (hinb : ∀ a, (k0_off49 v280) a + S512x512.size a ≤ S8192x512.size a), (Rect.unit (s := S8192x512) (k0_off49 v280) S512x512.size hinb).PackedRows (EltTy.packing .bf16)) ∧
  (∀ a, (k0_off52 v280) a + S512x512.size a ≤ S8192x512.size a) ∧
  (∀ (hinb : ∀ a, (k0_off52 v280) a + S512x512.size a ≤ S8192x512.size a), (Rect.unit (s := S8192x512) (k0_off52 v280) S512x512.size hinb).WholeWords (EltTy.packing .bf16)) ∧
  ((k0_dev28 v280) < nD) ∧
  (∀ a, (k0_off153 v280) a + S512x512.size a ≤ S8192x512.size a) ∧
  (∀ (hinb : ∀ a, (k0_off153 v280) a + S512x512.size a ≤ S8192x512.size a), (Rect.unit (s := S8192x512) (k0_off153 v280) S512x512.size hinb).WholeWords (EltTy.packing .bf16))
theorem k0_off49_inb : ∀ (v280 : BitVec 32) (k0_hw13 : k0_chk13 v280), ∀ a, (k0_off49 v280) a + S512x512.size a ≤ S8192x512.size a := fun v280 k0_hw13 => k0_hw13.1
theorem k0_off49_packedbf16 : ∀ (v280 : BitVec 32) (k0_hw13 : k0_chk13 v280), (Rect.unit (s := S8192x512) (k0_off49 v280) S512x512.size (k0_off49_inb v280 k0_hw13)).PackedRows (EltTy.packing .bf16) := fun v280 k0_hw13 => k0_hw13.2.1 (k0_off49_inb v280 k0_hw13)
theorem k0_off52_inb : ∀ (v280 : BitVec 32) (k0_hw13 : k0_chk13 v280), ∀ a, (k0_off52 v280) a + S512x512.size a ≤ S8192x512.size a := fun v280 k0_hw13 => k0_hw13.2.2.1
theorem k0_off52_wordsbf16 : ∀ (v280 : BitVec 32) (k0_hw13 : k0_chk13 v280), (Rect.unit (s := S8192x512) (k0_off52 v280) S512x512.size (k0_off52_inb v280 k0_hw13)).WholeWords (EltTy.packing .bf16) := fun v280 k0_hw13 => k0_hw13.2.2.2.1 (k0_off52_inb v280 k0_hw13)
theorem k0_dev28_lt : ∀ (v280 : BitVec 32) (k0_hw13 : k0_chk13 v280), (k0_dev28 v280) < nD := fun v280 k0_hw13 => k0_hw13.2.2.2.2.1
theorem k0_off153_inb : ∀ (v280 : BitVec 32) (k0_hw13 : k0_chk13 v280), ∀ a, (k0_off153 v280) a + S512x512.size a ≤ S8192x512.size a := fun v280 k0_hw13 => k0_hw13.2.2.2.2.2.1
theorem k0_off153_wordsbf16 : ∀ (v280 : BitVec 32) (k0_hw13 : k0_chk13 v280), (Rect.unit (s := S8192x512) (k0_off153 v280) S512x512.size (k0_off153_inb v280 k0_hw13)).WholeWords (EltTy.packing .bf16) := fun v280 k0_hw13 => k0_hw13.2.2.2.2.2.2 (k0_off153_inb v280 k0_hw13)

def k0_off154 (v298 : BitVec 32) : Fin 2 → Nat :=
  let c512_i32_176 : BitVec 32 := 512#32
  let v299 : BitVec 32 := Scalar.muli v298 c512_i32_176
  let c0_i32_764 : BitVec 32 := 0#32
  ![v299.toNat, 0]

def k0_chk14 (v298 : BitVec 32) : Prop :=
  (∀ a, (k0_off53 v298) a + S512x512.size a ≤ S8192x512.size a) ∧
  (∀ (hinb : ∀ a, (k0_off53 v298) a + S512x512.size a ≤ S8192x512.size a), (Rect.unit (s := S8192x512) (k0_off53 v298) S512x512.size hinb).PackedRows (EltTy.packing .bf16)) ∧
  (∀ a, (k0_off56 v298) a + S512x512.size a ≤ S8192x512.size a) ∧
  (∀ (hinb : ∀ a, (k0_off56 v298) a + S512x512.size a ≤ S8192x512.size a), (Rect.unit (s := S8192x512) (k0_off56 v298) S512x512.size hinb).WholeWords (EltTy.packing .bf16)) ∧
  ((k0_dev29 v298) < nD) ∧
  (∀ a, (k0_off154 v298) a + S512x512.size a ≤ S8192x512.size a) ∧
  (∀ (hinb : ∀ a, (k0_off154 v298) a + S512x512.size a ≤ S8192x512.size a), (Rect.unit (s := S8192x512) (k0_off154 v298) S512x512.size hinb).WholeWords (EltTy.packing .bf16))
theorem k0_off53_inb : ∀ (v298 : BitVec 32) (k0_hw14 : k0_chk14 v298), ∀ a, (k0_off53 v298) a + S512x512.size a ≤ S8192x512.size a := fun v298 k0_hw14 => k0_hw14.1
theorem k0_off53_packedbf16 : ∀ (v298 : BitVec 32) (k0_hw14 : k0_chk14 v298), (Rect.unit (s := S8192x512) (k0_off53 v298) S512x512.size (k0_off53_inb v298 k0_hw14)).PackedRows (EltTy.packing .bf16) := fun v298 k0_hw14 => k0_hw14.2.1 (k0_off53_inb v298 k0_hw14)
theorem k0_off56_inb : ∀ (v298 : BitVec 32) (k0_hw14 : k0_chk14 v298), ∀ a, (k0_off56 v298) a + S512x512.size a ≤ S8192x512.size a := fun v298 k0_hw14 => k0_hw14.2.2.1
theorem k0_off56_wordsbf16 : ∀ (v298 : BitVec 32) (k0_hw14 : k0_chk14 v298), (Rect.unit (s := S8192x512) (k0_off56 v298) S512x512.size (k0_off56_inb v298 k0_hw14)).WholeWords (EltTy.packing .bf16) := fun v298 k0_hw14 => k0_hw14.2.2.2.1 (k0_off56_inb v298 k0_hw14)
theorem k0_dev29_lt : ∀ (v298 : BitVec 32) (k0_hw14 : k0_chk14 v298), (k0_dev29 v298) < nD := fun v298 k0_hw14 => k0_hw14.2.2.2.2.1
theorem k0_off154_inb : ∀ (v298 : BitVec 32) (k0_hw14 : k0_chk14 v298), ∀ a, (k0_off154 v298) a + S512x512.size a ≤ S8192x512.size a := fun v298 k0_hw14 => k0_hw14.2.2.2.2.2.1
theorem k0_off154_wordsbf16 : ∀ (v298 : BitVec 32) (k0_hw14 : k0_chk14 v298), (Rect.unit (s := S8192x512) (k0_off154 v298) S512x512.size (k0_off154_inb v298 k0_hw14)).WholeWords (EltTy.packing .bf16) := fun v298 k0_hw14 => k0_hw14.2.2.2.2.2.2 (k0_off154_inb v298 k0_hw14)

def k0_off155 (v316 : BitVec 32) : Fin 2 → Nat :=
  let c512_i32_185 : BitVec 32 := 512#32
  let v317 : BitVec 32 := Scalar.muli v316 c512_i32_185
  let c0_i32_769 : BitVec 32 := 0#32
  ![v317.toNat, 0]

def k0_chk15 (v316 : BitVec 32) : Prop :=
  (∀ a, (k0_off57 v316) a + S512x512.size a ≤ S8192x512.size a) ∧
  (∀ (hinb : ∀ a, (k0_off57 v316) a + S512x512.size a ≤ S8192x512.size a), (Rect.unit (s := S8192x512) (k0_off57 v316) S512x512.size hinb).PackedRows (EltTy.packing .bf16)) ∧
  (∀ a, (k0_off60 v316) a + S512x512.size a ≤ S8192x512.size a) ∧
  (∀ (hinb : ∀ a, (k0_off60 v316) a + S512x512.size a ≤ S8192x512.size a), (Rect.unit (s := S8192x512) (k0_off60 v316) S512x512.size hinb).WholeWords (EltTy.packing .bf16)) ∧
  ((k0_dev30 v316) < nD) ∧
  (∀ a, (k0_off155 v316) a + S512x512.size a ≤ S8192x512.size a) ∧
  (∀ (hinb : ∀ a, (k0_off155 v316) a + S512x512.size a ≤ S8192x512.size a), (Rect.unit (s := S8192x512) (k0_off155 v316) S512x512.size hinb).WholeWords (EltTy.packing .bf16))
theorem k0_off57_inb : ∀ (v316 : BitVec 32) (k0_hw15 : k0_chk15 v316), ∀ a, (k0_off57 v316) a + S512x512.size a ≤ S8192x512.size a := fun v316 k0_hw15 => k0_hw15.1
theorem k0_off57_packedbf16 : ∀ (v316 : BitVec 32) (k0_hw15 : k0_chk15 v316), (Rect.unit (s := S8192x512) (k0_off57 v316) S512x512.size (k0_off57_inb v316 k0_hw15)).PackedRows (EltTy.packing .bf16) := fun v316 k0_hw15 => k0_hw15.2.1 (k0_off57_inb v316 k0_hw15)
theorem k0_off60_inb : ∀ (v316 : BitVec 32) (k0_hw15 : k0_chk15 v316), ∀ a, (k0_off60 v316) a + S512x512.size a ≤ S8192x512.size a := fun v316 k0_hw15 => k0_hw15.2.2.1
theorem k0_off60_wordsbf16 : ∀ (v316 : BitVec 32) (k0_hw15 : k0_chk15 v316), (Rect.unit (s := S8192x512) (k0_off60 v316) S512x512.size (k0_off60_inb v316 k0_hw15)).WholeWords (EltTy.packing .bf16) := fun v316 k0_hw15 => k0_hw15.2.2.2.1 (k0_off60_inb v316 k0_hw15)
theorem k0_dev30_lt : ∀ (v316 : BitVec 32) (k0_hw15 : k0_chk15 v316), (k0_dev30 v316) < nD := fun v316 k0_hw15 => k0_hw15.2.2.2.2.1
theorem k0_off155_inb : ∀ (v316 : BitVec 32) (k0_hw15 : k0_chk15 v316), ∀ a, (k0_off155 v316) a + S512x512.size a ≤ S8192x512.size a := fun v316 k0_hw15 => k0_hw15.2.2.2.2.2.1
theorem k0_off155_wordsbf16 : ∀ (v316 : BitVec 32) (k0_hw15 : k0_chk15 v316), (Rect.unit (s := S8192x512) (k0_off155 v316) S512x512.size (k0_off155_inb v316 k0_hw15)).WholeWords (EltTy.packing .bf16) := fun v316 k0_hw15 => k0_hw15.2.2.2.2.2.2 (k0_off155_inb v316 k0_hw15)

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Twin.lean ====
/-
The compiled program and its reading at the ideal instance are the same text: the claim about the one IS the
statement proved once, for every instance of the floats, about the other.
-/
module

public import proofs.«01_k».proof.Defs
public import proofs.«01_k».proof.Proof.Gen.Kernel
public import proofs.«01_k».proof.Proof.Gen.KernelIdeal
public import Idealize.ShloMosaic.Lib.Pipeline.Regions

@[expose] public section

noncomputable section

namespace Cert.Proof

open Idealize.ShloMosaic Idealize.SL.Sem

/-- The program's frame with its counters, at any instance of the floats. -/
def Quiescent (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem quiescent_kernel_eq : quiescent_Kernel (hKernel := Cert.Kernel.Gen.facts) = Quiescent Bits := by chain_rfl

end Cert.Proof

end
-- ==== Proof.Prog.lean ====
/-
The kernel's body as a program over LISTS of steps: fifteen signals to the other devices, one wait for theirs, fifteen
sends (one per other device, in the order that the device's row of the order table names), the device's own block, the
first copy of weight rows, sixteen rounds of a multiplication, and one wait per send. Each step is written once, for
every position; `body_eq` says that the printed body is the program so written.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Steps

open Cert.KernelIdeal Cert.KernelIdeal.Gen
open Idealize.ShloMosaic Idealize.ShloMosaic.TcCoe Idealize.SL.Sem

abbrev Pg (F : FTy → Type) : Type 1 := Prog (TpuEff nD τ sig (Elt F) Λ₀ .tc) PUnit

variable {F : FTy → Type} [FloatOps F]

abbrev ordM : Memref sig .tc .smem S16 .i32 := Memref.whole cc0_stg0_0
abbrev xM : Memref sig .tc .vmem S8192x512 .bf16 := Memref.whole cc0_stg1_0
abbrev wM : Memref sig .tc .hbm S8192x4096 .bf16 := Memref.whole main_arg1
abbrev outM : Memref sig .tc .vmem S512x4096 .f32 := Memref.whole cc0_stg2_0
abbrev xbM : Memref sig .tc .vmem S8192x512 .bf16 := Memref.whole cc0_scratch0
abbrev commM : Memref sig .tc .vmem S16x512x512 .bf16 := Memref.whole cc0_scratch1
abbrev wbufM : Memref sig .tc .vmem S2x512x4096 .bf16 := Memref.whole cc0_scratch2
abbrev barS : Sems sig S_ := SemArray.scalar (sig.barrier 0 rfl)

/-- Word `i` of the order row, as a rectangle. -/
theorem ord_inb (i : Fin 16) : ∀ a, (![i.val] : Fin 1 → Nat) a + S1.size a ≤ S16.size a := by
  intro a; fin_cases a; show i.val + 1 ≤ 16; exact i.isLt
abbrev ordR (i : Fin 16) : Rect S16 := Rect.unit (s := S16) ![i.val] S1.size (ord_inb i)
/-- Send semaphore `i`. -/
theorem send_inb (i : Fin 15) : ∀ a, (![i.val] : Fin 1 → Nat) a + S1.size a ≤ S15.size a := by
  intro a; fin_cases a; show i.val + 1 ≤ 15; exact i.isLt
abbrev sendS (i : Fin 15) : DmaSems sig S_ :=
  (cc0_scratch3.slice (Rect.unit (s := S15) ![i.val] S1.size (send_inb i))).squeeze S_ squeezes_S1_S_
/-- Slot `s` of the weight buffer and its semaphore. -/
theorem wsem_inb (s : Fin 2) : ∀ a, (![s.val] : Fin 1 → Nat) a + S1.size a ≤ S2.size a := by
  intro a; fin_cases a; show s.val + 1 ≤ 2; exact s.isLt
abbrev wS (s : Fin 2) : DmaSems sig S_ :=
  (cc0_scratch5.slice (Rect.unit (s := S2) ![s.val] S1.size (wsem_inb s))).squeeze S_ squeezes_S1_S_
theorem wslot_inb (s : Fin 2) : ∀ a, (![s.val, 0, 0] : Fin 3 → Nat) a + S1x512x4096.size a ≤ S2x512x4096.size a := by
  intro a; fin_cases a
  · show s.val + 1 ≤ 2; exact s.isLt
  · exact Nat.le_refl _
  · exact Nat.le_refl _
abbrev wslotR (s : Fin 2) : Rect S2x512x4096 := Rect.unit (s := S2x512x4096) ![s.val, 0, 0] S1x512x4096.size (wslot_inb s)
theorem wslot_words (s : Fin 2) : (wslotR s).WholeWords (EltTy.packing .bf16) := by
  revert s; decide +kernel
abbrev wslotM (s : Fin 2) : Memref sig .tc .vmem S512x4096 .bf16 :=
  (wbufM.slice (wslotR s) (fun _ => rfl)).squeeze S512x4096 squeezes_S1x512x4096_S512x4096

/-! ### The steps -/

/-- The device that signal `i` goes to: the one `i + 1` places on. -/
def sigDev (c : Dev nD) (i : Fin 15) : Dev nD :=
  ⟨(Scalar.addi 0#32 (Scalar.muli (Scalar.remsi (Scalar.addi (Scalar.remsi (Scalar.divsi (Dev.word c) 1#32) 16#32) (BitVec.ofNat 32 (i.val + 1))) 16#32) 1#32)).toNat,
    by revert c i; decide +kernel⟩

/-- The signals named by a list. -/
def signalsK (c : Dev nD) : List (Fin 15) → Pg F → Pg F
  | [], k => k
  | i :: is, k => semSignalWord (sigDev c i) barS.sem 1#32 >>= fun _ => signalsK c is k

/-- A word read for a send, with what the program checks of it. -/
abbrev SW : Type := Σ' v : BitVec 32, k0_chk1 v

abbrev rowR (v : BitVec 32) (h : k0_chk1 v) : Rect S8192x512 := Rect.unit (s := S8192x512) (k0_off1 v) S512x512.size (k0_off1_inb v h)
abbrev srcM (v : BitVec 32) (h : k0_chk1 v) : Memref sig .tc .vmem S512x512 .bf16 :=
  xbM.slice (Rect.unit (s := S8192x512) (k0_off4 v) S512x512.size (k0_off4_inb v h)) (fun _ => rfl)
abbrev dstM (c : Dev nD) : Memref sig .tc .vmem S512x512 .bf16 :=
  (commM.slice (Rect.unit (s := S16x512x512) (k0_off3 c) S1x512x512.size (k0_off3_inb c)) (fun _ => rfl)).squeeze S512x512 squeezes_S1x512x512_S512x512
abbrev recvS (c : Dev nD) : DmaSems sig S_ :=
  (cc0_scratch4.slice (Rect.unit (s := S16) (k0_off2 c) S1.size (k0_off2_inb c))).squeeze S_ squeezes_S1_S_

/-- Send `i`: the row block that word `i + 1` names is copied into the send buffer and sent to the device of that name. -/
def sendK (c : Dev nD) (i : Fin 15) (k : SW → Pg F) : Pg F := do
  let v : Elt F .i32 ← smemLoad ordM (ordR i.succ) numel1_S1 rfl
  have h : k0_chk1 v := (← Prog.lift (TpuEff.assume (k0_chk1 v) (k0_chk1.dec v))).down
  let x : Vec F S512x512 .bf16 ← Prog.lift (.load xM (rowR v h).toLoadRect (View.loadsAt_vmem h_S512x512))
  let _ : Vec F S512x512 .bf16 ← Prog.lift (.load xbM (rowR v h).toLoadRect (View.loadsAt_vmem h_S512x512))
  Prog.lift (.store xbM (rowR v h) (k0_pay1 x) Finset.univ (View.stores_vmem h_S512x512 ((Memref.isWhole_whole cc0_scratch0).storeExact_slice rfl _ (k0_off1_packedbf16 v h)) (fun _ => rfl)) (.inl rfl))
  Prog.lift (.enqueueDma (srcM v h) (.remote (Dev.tc (⟨k0_dev16 v, k0_dev16_lt v h⟩ : Dev nD)) (dstM c) (.dma (sendS i).sem)) (.dma (recvS c).sem) ((Memref.isWhole_whole cc0_scratch0).wordExact_slice rfl _ (k0_off4_wordsbf16 v h)) (((Memref.isWhole_whole cc0_scratch1).wordExact_slice rfl _ (k0_off3_wordsbf16 c)).reshape _ _) ⟨⟨rfl, Or.inl rfl⟩, trivial⟩)
  k ⟨v, h⟩

/-- The sends named by a list, their words collected. -/
def sendsK (c : Dev nD) : List (Fin 15) → (List (Fin 15 × SW) → Pg F) → Pg F
  | [], k => k []
  | i :: is, k => sendK c i fun w => sendsK c is fun ws => k ((i, w) :: ws)

/-- The device's own row block is copied into the send buffer too. -/
def ownK (c : Dev nD) (k : Pg F) : Pg F := do
  let x : Vec F S512x512 .bf16 ← Prog.lift (.load xM (Rect.unit (s := S8192x512) (k0_off61 c) S512x512.size (k0_off61_inb c)).toLoadRect (View.loadsAt_vmem h_S512x512))
  let _ : Vec F S512x512 .bf16 ← Prog.lift (.load xbM (Rect.unit (s := S8192x512) (k0_off61 c) S512x512.size (k0_off61_inb c)).toLoadRect (View.loadsAt_vmem h_S512x512))
  Prog.lift (.store xbM (Rect.unit (s := S8192x512) (k0_off61 c) S512x512.size (k0_off61_inb c)) (k0_pay18 x) Finset.univ (View.stores_vmem h_S512x512 ((Memref.isWhole_whole cc0_scratch0).storeExact_slice rfl _ (k0_off61_packedbf16 c)) (fun _ => rfl)) (.inl rfl))
  k

abbrev wrowM (v : BitVec 32) (h : k0_chk16 v) : Memref sig .tc .hbm S512x4096 .bf16 :=
  wM.slice (Rect.unit (s := S8192x4096) (k0_off62 v) S512x4096.size (k0_off62_inb v h)) (fun _ => rfl)

/-- The copy of the weight rows `v` into slot `s`, started. -/
def startK (s : Fin 2) (v : BitVec 32) (h : k0_chk16 v) (k : Pg F) : Pg F := do
  Prog.lift (.enqueueDma (wrowM v h) (.here (wslotM s)) (.dma (wS s).sem) ((Memref.isWhole_whole main_arg1).wordExact_slice rfl _ (k0_off62_wordsbf16 v h)) (((Memref.isWhole_whole cc0_scratch2).wordExact_slice rfl _ (wslot_words s)).reshape _ _) ⟨Or.inl rfl, trivial⟩)
  k

/-- Word `i`, read and checked for a copy of weight rows. -/
def wordK (i : Fin 16) (k : (v : BitVec 32) → k0_chk16 v → Pg F) : Pg F := do
  let v : Elt F .i32 ← smemLoad ordM (ordR i) numel1_S1 rfl
  have h : k0_chk16 v := (← Prog.lift (TpuEff.assume (k0_chk16 v) (k0_chk16.dec v))).down
  k v h

/-- Word `i`, read and checked for a round. -/
def roundWordK (i : Fin 16) (k : (v : BitVec 32) → k0_chk20 v → Pg F) : Pg F := do
  let v : Elt F .i32 ← smemLoad ordM (ordR i) numel1_S1 rfl
  have h : k0_chk20 v := (← Prog.lift (TpuEff.assume (k0_chk20 v) (k0_chk20.dec v))).down
  k v h

/-- The wait for the copy of the weight rows `v` into slot `s`. -/
def waitWK (s : Fin 2) (v : BitVec 32) (h : k0_chk16 v) (k : Pg F) : Pg F := do
  Prog.lift (.waitDma2 (wS s).sem (wrowM v h) (wslotM s) ((Memref.isWhole_whole main_arg1).wordExact_slice rfl _ (k0_off62_wordsbf16 v h)) (((Memref.isWhole_whole cc0_scratch2).wordExact_slice rfl _ (wslot_words s)).reshape _ _))
  k

abbrev outR : Rect S512x4096 := Rect.unit (s := S512x4096) ![0, 0] S512x4096.size inb_S512x4096_S512x4096_0_0

/-- Round 0's product: the device's own block by the rows in slot 0. -/
def firstK (c : Dev nD) (k : Pg F) : Pg F := do
  let x : Vec F S512x512 .bf16 ← Prog.lift (.load xbM (Rect.unit (s := S8192x512) (k0_off65 c) S512x512.size (k0_off65_inb c)).toLoadRect (View.loadsAt_vmem h_S512x512))
  let w : Vec F S1x512x4096 .bf16 ← Prog.lift (.load wbufM (wslotR 0).toLoadRect (View.loadsAt_vmem h_S1x512x4096))
  let _ : Vec F S512x4096 .f32 ← Prog.lift (.load outM outR.toLoadRect (View.loadsAt_vmem h_S512x4096))
  Prog.lift (.store outM outR (k0_pay19 x w) Finset.univ (View.stores_vmem_bits_univ h_S512x4096 rfl) (.inl rfl))
  k

/-- A later round's wait for the block of the device `v` names, its product with the rows in slot `s`, and the sum. -/
def accK (s : Fin 2) (v : BitVec 32) (h : k0_chk20 v) (k : Pg F) : Pg F := do
  Prog.lift (.waitDma2 ((cc0_scratch4.slice (Rect.unit (s := S16) (k0_off68 v) S1.size (k0_off68_inb v h))).squeeze S_ squeezes_S1_S_).sem
    (xbM.slice (Rect.unit (s := S8192x512) ![0, 0] S512x512.size inb_S8192x512_S512x512_0_0) (fun _ => rfl))
    ((commM.slice (Rect.unit (s := S16x512x512) (k0_off69 v) S1x512x512.size (k0_off69_inb v h)) (fun _ => rfl)).squeeze S512x512 squeezes_S1x512x512_S512x512)
    ((Memref.isWhole_whole cc0_scratch0).wordExact_slice rfl _ wordsbf16_S8192x512_S512x512_0_0)
    (((Memref.isWhole_whole cc0_scratch1).wordExact_slice rfl _ (k0_off69_wordsbf16 v h)).reshape _ _))
  let x : Vec F S1x512x512 .bf16 ← Prog.lift (.load commM (Rect.unit (s := S16x512x512) (k0_off70 v) S1x512x512.size (k0_off70_inb v h)).toLoadRect (View.loadsAt_vmem h_S1x512x512))
  let w : Vec F S1x512x4096 .bf16 ← Prog.lift (.load wbufM (wslotR s).toLoadRect (View.loadsAt_vmem h_S1x512x4096))
  let y : Vec F S512x4096 .f32 ← Prog.lift (.load outM outR.toLoadRect (View.loadsAt_vmem h_S512x4096))
  let _ : Vec F S512x4096 .f32 ← Prog.lift (.load outM outR.toLoadRect (View.loadsAt_vmem h_S512x4096))
  Prog.lift (.store outM outR (k0_pay20 x w y) Finset.univ (View.stores_vmem_bits_univ h_S512x4096 rfl) (.inl rfl))
  k

theorem chk20_16 {v : BitVec 32} (h : k0_chk20 v) : k0_chk16 v := ⟨h.1, h.2.1⟩

/-- Slot of round `t`. -/
def slot (t : ℕ) : Fin 2 := ⟨t % 2, Nat.mod_lt _ (by decide)⟩

/-- Round `t` of those between the first and the last: the next round's rows are started before this one's are waited for. -/
def midK (t : Fin 14) (k : Pg F) : Pg F :=
  roundWordK t.castSucc.succ fun v h =>
  wordK t.succ.succ fun v' h' =>
  startK (slot t.val) v' h' <|
  waitWK (slot (t.val + 1)) v (chk20_16 h) <|
  accK (slot (t.val + 1)) v h k

def midsK : List (Fin 14) → Pg F → Pg F
  | [], k => k
  | t :: ts, k => midK t (midsK ts k)

/-- The waits for the sends of a list to have left. -/
def waitsK (c : Dev nD) : List (Fin 15 × SW) → Pg F
  | [] => pure ⟨⟩
  | (i, w) :: ws => do
    Prog.lift (.waitDma2 (sendS i).sem
      ((commM.slice (Rect.unit (s := S16x512x512) (k0_off141 c) S1x512x512.size (k0_off141_inb c)) (fun _ => rfl)).squeeze S512x512 squeezes_S1x512x512_S512x512)
      (xbM.slice (Rect.unit (s := S8192x512) (k0_off140 w.1) S512x512.size (k0_off140_inb w.1 w.2)) (fun _ => rfl))
      (((Memref.isWhole_whole cc0_scratch1).wordExact_slice rfl _ (k0_off141_wordsbf16 c)).reshape _ _)
      ((Memref.isWhole_whole cc0_scratch0).wordExact_slice rfl _ (k0_off140_wordsbf16 w.1 w.2)))
    waitsK c ws

def ups : List (Fin 15) := [0, 1, 2, 3, 4, 5, 6, 7, 8, 9, 10, 11, 12, 13, 14]
def downs : List (Fin 15) := [14, 13, 12, 11, 10, 9, 8, 7, 6, 5, 4, 3, 2, 1, 0]
def mids : List (Fin 14) := [0, 1, 2, 3, 4, 5, 6, 7, 8, 9, 10, 11, 12, 13]

/-- What follows the sends. -/
def restK (c : Dev nD) (ws : List (Fin 15 × SW)) : Pg F :=
  ownK c <|
  wordK 0 fun v h => startK 0 v h <|
  wordK 0 fun v h =>
  wordK 1 fun v' h' => startK 1 v' h' <|
  waitWK 0 v h <|
  firstK c <|
  midsK mids <|
  roundWordK 15 fun v h =>
  waitWK 1 v (chk20_16 h) <|
  accK 1 v h <|
  waitsK c ws

/-- The whole body. -/
def prog : Pg F := do
  let c ← Prog.lift .deviceId
  signalsK c ups do
    semWaitWord barS.sem 15#32
    sendsK c downs (restK c)

set_option maxRecDepth 65536 in
/-- The printed body is the program over lists. -/
theorem body_eq :
    cc0_body (F := F) ordM (Memref.isWhole_whole _) xM (Memref.isWhole_whole _) wM (Memref.isWhole_whole _) outM (Memref.isWhole_whole _)
      xbM (Memref.isWhole_whole _) commM (Memref.isWhole_whole _) wbufM (Memref.isWhole_whole _) cc0_scratch3 cc0_scratch4 cc0_scratch5 = prog := by
  chain_rfl

end Cert.KernelIdeal.Steps

end
-- ==== Proof.Words.lean ====
/-
The words of the order table: the row of device `c` is a permutation of the devices that starts at `c` itself. What the
body checks of a word holds of every device's name, and the offsets and the device that it computes from a device's name
are that device's.
-/
module

public import proofs.«01_k».proof.Proof.Prog

@[expose] public section

noncomputable section

namespace Cert.KernelIdeal.Steps

open Cert.KernelIdeal Cert.KernelIdeal.Gen
open Idealize.ShloMosaic Idealize.ShloMosaic.TcCoe Idealize.SL.Sem

/-- Device `p`'s name as a word. -/
def wd (p : Dev nD) : BitVec 32 := BitVec.ofNat 32 p.val

/-- Word `i` of device `c`'s row of the table. -/
def ordW (c : Dev nD) (i : Fin 16) : BitVec 32 := lit0 ⟨c.val * 16 + i.val, by have := c.isLt; have := i.isLt; show _ < 256; simp only [nD] at *; omega⟩

/-- The device that it names. -/
def ord (c : Dev nD) (i : Fin 16) : Dev nD := ⟨(ordW c i).toNat % 16, Nat.mod_lt _ (by decide)⟩

theorem ordW_eq : ∀ (c : Dev nD) (i : Fin 16), ordW c i = wd (ord c i) := by decide +kernel
theorem ord_zero : ∀ c : Dev nD, ord c 0 = c := by decide +kernel
theorem ord_inj : ∀ (c : Dev nD) (i j : Fin 16), ord c i = ord c j → i = j := by decide +kernel

theorem chk1_ok : ∀ p : Dev nD, k0_chk1 (wd p) := by decide +kernel
theorem chk16_ok : ∀ p : Dev nD, k0_chk16 (wd p) := by decide +kernel
theorem chk20_ok : ∀ p : Dev nD, k0_chk20 (wd p) := by decide +kernel

theorem dev_wd : ∀ (p : Dev nD) (h : k0_dev16 (wd p) < nD), (⟨k0_dev16 (wd p), h⟩ : Dev nD) = p := by
  intro p h; revert p; decide +kernel

theorem off1_wd : ∀ p : Dev nD, k0_off1 (wd p) = ![p.val * 512, 0] := by decide +kernel
theorem off62_wd : ∀ p : Dev nD, k0_off62 (wd p) = ![p.val * 512, 0] := by decide +kernel
theorem off69_wd : ∀ p : Dev nD, k0_off69 (wd p) = ![p.val, 0, 0] := by decide +kernel
theorem off68_wd : ∀ p : Dev nD, k0_off68 (wd p) = ![p.val] := by decide +kernel
theorem off2_dev : ∀ p : Dev nD, k0_off2 p = k0_off68 (wd p) := by decide +kernel
theorem off3_dev : ∀ p : Dev nD, k0_off3 p = k0_off69 (wd p) := by decide +kernel
theorem off65_dev : ∀ p : Dev nD, k0_off65 p = k0_off1 (wd p) := by decide +kernel
theorem off70_dev : ∀ p : Dev nD, k0_off70 (wd p) = k0_off3 p := by decide +kernel
theorem off61_dev : ∀ p : Dev nD, k0_off61 p = k0_off1 (wd p) := by decide +kernel

theorem sigDev_ne : ∀ (c : Dev nD) (i : Fin 15), sigDev c i ≠ c := by decide +kernel
theorem sigDev_inj : ∀ (c : Dev nD) (i j : Fin 15), sigDev c i = sigDev c j → i = j := by decide +kernel
theorem sigDev_surj : ∀ (c d : Dev nD), d ≠ c → ∃ i, sigDev c i = d := by decide +kernel

/-! ### The semaphores by their numbers -/

theorem sendS_sem : ∀ i : Fin 15, (sendS i).sem = (⟨3 + i.val, by have := i.isLt; show _ < 36; omega⟩ : Fin 36) := by decide +kernel
theorem recvS_sem : ∀ p : Dev nD, (recvS p).sem = (⟨18 + p.val, by have := p.isLt; show _ < 36; simp only [nD] at *; omega⟩ : Fin 36) := by decide +kernel
theorem wS_sem : ∀ s : Fin 2, (wS s).sem = (⟨34 + s.val, by have := s.isLt; show _ < 36; omega⟩ : Fin 36) := by decide +kernel

end Cert.KernelIdeal.Steps

end
-- ==== Proof.Protocol.lean ====
/-
The protocol of the body's semaphores. Each device has a barrier cell (one duty for each of the other devices, that pays
with its own slot for this device), fifteen send cells, a cell for each device that sends to it, and two cells for the
copies of weight rows, eight rounds each. Blocks are named by the views that the program reads them through.
-/
module

public import proofs.«01_k».proof.Proof.Words
public import Idealize.ShloMosaic.Lib.Pipeline.Kit
public import Idealize.ShloMosaic.Lib.Rounds
public import Idealize.ShloMosaic.Lib.Rounds.Family
public import Idealize.ShloMosaic.Lib.Memref
public import Idealize.ShloMosaic.Lib.Tactic
public import Idealize.ShloMosaic.Harness.Basic

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's rounds and the protocol's, whose duties are named by devices. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ### Cells -/

abbrev barCell (c : Dev nD) : GSem nD τ sig := ((c : Thread nD τ), .reg barS.sem)
abbrev sendCell (c : Dev nD) (i : Fin 15) : GSem nD τ sig := ((c : Thread nD τ), .dma (sendS i).sem)
/-- The cell of device `c` that device `j`'s block is counted on. -/
abbrev recvCell (c j : Dev nD) : GSem nD τ sig := ((c : Thread nD τ), .dma (recvS j).sem)
abbrev wCell (c : Dev nD) (s : Fin 2) : GSem nD τ sig := ((c : Thread nD τ), .dma (wS s).sem)

inductive Kind : Type
  | bar
  | send (i : Fin 15)
  | recv (j : Dev nD)
  | w (s : Fin 2)
  | other
  deriving DecidableEq

/-- What a semaphore is for. -/
def kind : SemLoc sig → Kind
  | .reg q => if q = barS.sem then .bar else .other
  | .dma q =>
    if q.val < 3 then .other
    else if h : q.val - 3 < 15 then .send ⟨q.val - 3, h⟩
    else if h : q.val - 18 < nD then .recv ⟨q.val - 18, h⟩
    else if h : q.val - 34 < 2 then .w ⟨q.val - 34, h⟩ else .other

theorem kind_bar : kind (.reg barS.sem) = .bar := by decide +kernel
theorem kind_send : ∀ i : Fin 15, kind (.dma (sendS i).sem) = .send i := by decide +kernel
theorem kind_recv : ∀ j : Dev nD, kind (.dma (recvS j).sem) = .recv j := by decide +kernel
theorem kind_w : ∀ s : Fin 2, kind (.dma (wS s).sem) = .w s := by decide +kernel

/-! ### Blocks -/

section Blocks

variable (X : Dev nD → cc0_stg1_0.ty.Contents (Elt F)) (Wt : Dev nD → main_arg1.ty.Contents (Elt F))

/-- Device `p`'s rows for device `c`. -/
def blockX (p c : Dev nD) : Vec F S512x512 .bf16 :=
  k0_pay1 ((xM.access (rowR (wd c) (chk1_ok c))).read (Elt F) (X p))
/-- The weight rows for device `p`, as device `c` has them. -/
def rowsW (c p : Dev nD) : Vec F S512x4096 .bf16 := (wrowM (wd p) (chk16_ok p)).view.read (Elt F) (Wt c)

/-- Device `c`'s row block for device `p` in the send buffer. -/
abbrev xbPts (c p : Dev nD) (f : Buf (Elt F) ((srcM (wd p) (chk1_ok p)).view.loc (c : Thread nD τ))) : sProp 𝕄 :=
  (srcM (wd p) (chk1_ok p)).view.loc (c : Thread nD τ) ↦[(srcM (wd p) (chk1_ok p)).view.set]{fullShare} f
/-- Device `c`'s slot for device `j`. -/
abbrev slotPts (c j : Dev nD) (f : Buf (Elt F) ((dstM j).view.loc (c : Thread nD τ))) : sProp 𝕄 :=
  (dstM j).view.loc (c : Thread nD τ) ↦[(dstM j).view.set]{fullShare} f
/-- Slot `s` of device `c`'s weight buffer. -/
abbrev wbPts (c : Dev nD) (s : Fin 2) (f : Buf (Elt F) ((wslotM s).view.loc (c : Thread nD τ))) : sProp 𝕄 :=
  (wslotM s).view.loc (c : Thread nD τ) ↦[(wslotM s).view.set]{fullShare} f
/-- Device `c`'s weight rows for device `p`. -/
abbrev wrowPts (c p : Dev nD) : sProp 𝕄 :=
  (wrowM (wd p) (chk16_ok p)).view.loc (c : Thread nD τ) ↦[(wrowM (wd p) (chk16_ok p)).view.set]{fullShare} Wt c

/-- The units of a block's copy and of a copy of weight rows. -/
@[irreducible] def N : ℕ := (dstM 0).view.dmaCredit
@[irreducible] def NW : ℕ := (wslotM 0).view.dmaCredit
theorem N_pos : 0 < N := by unfold N; exact View.dmaCredit_pos _ (by decide)
theorem NW_pos : 0 < NW := by unfold NW; exact View.dmaCredit_pos _ (by decide)
theorem dst_amount (j p : Dev nD) : (dstM j).view.amount (.dma (recvS p).sem) = N := by unfold N; rfl
theorem wslot_amount (s s' : Fin 2) : (wslotM s).view.amount (.dma (wS s').sem) = NW := by unfold NW; rfl

/-! ### The schedule -/

/-- What device `d` pays to device `c`'s barrier cell: its slot for `c`, and that the cell of that slot stands at its first round. -/
def barPay (c d : Dev nD) : sProp 𝕄 := iprop((∃ f, slotPts d c f) ∗ reached ER (recvCell d c) 0)
def sendPay (c : Dev nD) (i : Fin 15) : sProp 𝕄 := iprop(∃ f, xbPts c (ord c i.succ) f)
def recvPay (c j : Dev nD) : sProp 𝕄 := owns (c : Thread nD τ) (dstM j) fullShare (blockX X j c)
def rowsPay (c : Dev nD) (s : Fin 2) (p : Dev nD) : sProp 𝕄 :=
  iprop(owns (c : Thread nD τ) (wslotM s) fullShare (rowsW Wt c p) ∗ wrowPts Wt c p)

/-- The round of the multiplication that round `r` of slot `s` is for. -/
def roundOf (s : Fin 2) (r : ℕ) : Fin 16 := ⟨(2 * r + s.val) % 16, Nat.mod_lt _ (by decide)⟩

def dutiesOf (c : Dev nD) (r : ℕ) : Kind → Finset (Dev nD)
  | .bar => if r = 0 then Finset.univ.erase c else ∅
  | .send _ => if r = 0 then {0} else ∅
  | .recv j => if r = 0 ∧ j ≠ c then {j} else ∅
  | .w _ => if r < 8 then {0} else ∅
  | .other => ∅
def amountOf : Kind → ℕ
  | .bar => 1
  | .send _ => N
  | .recv _ => N
  | .w _ => NW
  | .other => 1
theorem amountOf_pos : ∀ k : Kind, 0 < amountOf k
  | .bar => Nat.one_pos
  | .send _ => N_pos
  | .recv _ => N_pos
  | .w _ => NW_pos
  | .other => Nat.one_pos
def payOf (c : Dev nD) (r : ℕ) (d : Dev nD) : Kind → sProp 𝕄
  | .bar => barPay c d
  | .send i => sendPay c i
  | .recv j => recvPay X c j
  | .w s => rowsPay Wt c s (ord c (roundOf s r))
  | .other => iprop(emp)

def Rd : Rounds.Schedule (GSem nD τ sig) (Dev nD) 𝕄 where
  duties g r := if g.1.2 = .tc then dutiesOf g.1.1 r (kind g.2) else ∅
  unitless _ := False
  amount g _ _ := amountOf (kind g.2)
  payload g r d := payOf X Wt g.1.1 r d (kind g.2)
  amount_pos g _ _ _ := amountOf_pos (kind g.2)

instance Rd_payload_storable (g : GSem nD τ sig) (r : ℕ) (d : Dev nD) :
    BI.Storable (upEmb : UEmb _ 𝕄) ((Rd X Wt).payload g r d) := by
  show BI.Storable upEmb (payOf X Wt g.1.1 r d (kind g.2))
  cases kind g.2 <;> unfold payOf
  · unfold barPay; infer_instance
  · unfold sendPay; infer_instance
  · unfold recvPay; infer_instance
  · unfold rowsPay; infer_instance
  · infer_instance

variable (c : Dev nD)

theorem duties_bar : (Rd X Wt).duties (barCell c) 0 = Finset.univ.erase c := by
  show (if ((c : Thread nD τ)).2 = .tc then dutiesOf c 0 (kind (.reg barS.sem)) else ∅) = _
  rw [if_pos rfl, kind_bar, dutiesOf, if_pos rfl]
theorem duties_send (i : Fin 15) : (Rd X Wt).duties (sendCell c i) 0 = {0} := by
  show (if ((c : Thread nD τ)).2 = .tc then dutiesOf c 0 (kind (.dma (sendS i).sem)) else ∅) = _
  rw [if_pos rfl, kind_send, dutiesOf, if_pos rfl]
theorem duties_recv (j : Dev nD) (h : j ≠ c) : (Rd X Wt).duties (recvCell c j) 0 = {j} := by
  show (if ((c : Thread nD τ)).2 = .tc then dutiesOf c 0 (kind (.dma (recvS j).sem)) else ∅) = _
  rw [if_pos rfl, kind_recv, dutiesOf, if_pos ⟨rfl, h⟩]
theorem duties_w (s : Fin 2) (r : ℕ) (hr : r < 8) : (Rd X Wt).duties (wCell c s) r = {0} := by
  show (if ((c : Thread nD τ)).2 = .tc then dutiesOf c r (kind (.dma (wS s).sem)) else ∅) = _
  rw [if_pos rfl, kind_w, dutiesOf, if_pos hr]

theorem amount_bar (r : ℕ) (d : Dev nD) : (Rd X Wt).amount (barCell c) r d = 1 := by
  show amountOf (kind (.reg barS.sem)) = _; rw [kind_bar]; rfl
theorem amount_send (i : Fin 15) (r : ℕ) (d : Dev nD) : (Rd X Wt).amount (sendCell c i) r d = N := by
  show amountOf (kind (.dma (sendS i).sem)) = _; rw [kind_send]; rfl
theorem amount_recv (j : Dev nD) (r : ℕ) (d : Dev nD) : (Rd X Wt).amount (recvCell c j) r d = N := by
  show amountOf (kind (.dma (recvS j).sem)) = _; rw [kind_recv]; rfl
theorem amount_w (s : Fin 2) (r : ℕ) (d : Dev nD) : (Rd X Wt).amount (wCell c s) r d = NW := by
  show amountOf (kind (.dma (wS s).sem)) = _; rw [kind_w]; rfl

theorem payload_bar (r : ℕ) (d : Dev nD) : (Rd X Wt).payload (barCell c) r d = barPay c d := by
  show payOf X Wt c r d (kind (.reg barS.sem)) = _; rw [kind_bar]; rfl
theorem payload_send (i : Fin 15) (r : ℕ) (d : Dev nD) : (Rd X Wt).payload (sendCell c i) r d = sendPay c i := by
  show payOf X Wt c r d (kind (.dma (sendS i).sem)) = _; rw [kind_send]; rfl
theorem payload_recv (j : Dev nD) (r : ℕ) (d : Dev nD) : (Rd X Wt).payload (recvCell c j) r d = recvPay X c j := by
  show payOf X Wt c r d (kind (.dma (recvS j).sem)) = _; rw [kind_recv]; rfl
theorem payload_w (s : Fin 2) (r : ℕ) (d : Dev nD) :
    (Rd X Wt).payload (wCell c s) r d = rowsPay Wt c s (ord c (roundOf s r)) := by
  show payOf X Wt c r d (kind (.dma (wS s).sem)) = _; rw [kind_w]; rfl

theorem expect_bar : (Rd X Wt).expect (barCell c) 0 = 15 := by
  unfold Schedule.expect Schedule.amountOf
  rw [duties_bar, Finset.sum_congr rfl fun d _ => amount_bar X Wt c 0 d, Finset.sum_const, Finset.card_erase_of_mem (Finset.mem_univ _)]
  rfl
theorem expect_send (i : Fin 15) : (Rd X Wt).expect (sendCell c i) 0 = N := by
  unfold Schedule.expect Schedule.amountOf; rw [duties_send, Finset.sum_singleton, amount_send]
theorem expect_recv (j : Dev nD) (h : j ≠ c) : (Rd X Wt).expect (recvCell c j) 0 = N := by
  unfold Schedule.expect Schedule.amountOf; rw [duties_recv X Wt c j h, Finset.sum_singleton, amount_recv]
theorem expect_w (s : Fin 2) (r : ℕ) (hr : r < 8) : (Rd X Wt).expect (wCell c s) r = NW := by
  unfold Schedule.expect Schedule.amountOf; rw [duties_w X Wt c s r hr, Finset.sum_singleton, amount_w]

theorem rest_send (i : Fin 15) :
    bigSep ((Rd X Wt).duties (sendCell c i) 0 \ ∅) (fun d => (Rd X Wt).payload (sendCell c i) 0 d) = sendPay c i := by
  rw [Finset.sdiff_empty, duties_send, bigSep_singleton, payload_send]
theorem rest_recv (j : Dev nD) (h : j ≠ c) :
    bigSep ((Rd X Wt).duties (recvCell c j) 0 \ ∅) (fun d => (Rd X Wt).payload (recvCell c j) 0 d) = recvPay X c j := by
  rw [Finset.sdiff_empty, duties_recv X Wt c j h, bigSep_singleton, payload_recv]
theorem rest_w (s : Fin 2) (r : ℕ) (hr : r < 8) :
    bigSep ((Rd X Wt).duties (wCell c s) r \ ∅) (fun d => (Rd X Wt).payload (wCell c s) r d) = rowsPay Wt c s (ord c (roundOf s r)) := by
  rw [Finset.sdiff_empty, duties_w X Wt c s r hr, bigSep_singleton, payload_w]
theorem rest_bar :
    bigSep ((Rd X Wt).duties (barCell c) 0 \ ∅) (fun d => (Rd X Wt).payload (barCell c) 0 d) = bigSep (Finset.univ.erase c) (fun d => barPay c d) := by
  rw [Finset.sdiff_empty, duties_bar]
  exact bigSep_congr fun d _ => payload_bar X Wt c 0 d

/-- Past its rounds a cell has no duty. -/
theorem duties_past (sm : SemLoc sig) (R : ℕ) (hR : (∃ s, kind sm = .w s) → 8 ≤ R) (h1 : (∀ s, kind sm ≠ .w s) → 1 ≤ R ∨ kind sm = .recv c) :
    ∀ r, R ≤ r → (Rd X Wt).duties ((c : Thread nD τ), sm) r = ∅ := by
  intro r hr
  show (if ((c : Thread nD τ)).2 = .tc then dutiesOf c r (kind sm) else ∅) = _
  rw [if_pos rfl]
  revert hR h1
  cases hk : kind sm with
  | w s => intro hR _; have := hR ⟨s, rfl⟩; exact if_neg (by omega)
  | bar => intro _ h1; exact if_neg (by have := h1 (fun s h => by cases h); rcases this with h | h; omega; cases h)
  | send i => intro _ h1; exact if_neg (by have := h1 (fun s h => by cases h); rcases this with h | h; omega; cases h)
  | recv j =>
    intro _ h1
    refine if_neg fun ⟨h0, hj⟩ => ?_
    rcases h1 (fun s h => by cases h) with h | h
    · omega
    · exact hj (by cases h; rfl)
  | other => intro _ _; rfl

end Blocks

/-! ### What each device owes at launch, and the levels -/

/-- What is owed for the signals of a list. -/
def oweSig (c : Dev nD) (l : List (Fin 15)) : CellTallies nD τ sig Unit := (l.map fun i => tallyAt (barCell (sigDev c i)) () 1).sum
/-- What is owed for the sends of a list. -/
def oweSend (c : Dev nD) (l : List (Fin 15)) : CellTallies nD τ sig Unit := (l.map fun i => tallyAt (recvCell (ord c i.succ) c) () N).sum

theorem oweSig_cons (c : Dev nD) (i : Fin 15) (l : List (Fin 15)) : oweSig c (i :: l) = oweSig c l + tallyAt (barCell (sigDev c i)) () 1 := by
  unfold oweSig; rw [List.map_cons, List.sum_cons, add_comm]
theorem oweSend_cons (c : Dev nD) (i : Fin 15) (l : List (Fin 15)) :
    oweSend c (i :: l) = oweSend c l + tallyAt (recvCell (ord c i.succ) c) () N := by
  unfold oweSend; rw [List.map_cons, List.sum_cons, add_comm]

def O₀ (c : Dev nD) : CellTallies nD τ sig Unit := oweSend c downs + oweSig c ups

def L (g : GSem nD τ sig) : Finset Unit := if g.1.2 = .tc then {()} else ∅
/-- The barrier cells are at 1, the cells for the blocks of other devices at 2, the rest at 0. -/
def lv (g : GSem nD τ sig) (_ : Unit) : ℕ := match kind g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [kind_bar]
theorem lv_recv (c j : Dev nD) : lv (recvCell c j) () = 2 := by unfold lv; rw [kind_recv]

theorem oweSend_at (c : Dev nD) (l : List (Fin 15)) (g : GSem nD τ sig) (u : Unit) (h : 0 < oweSend c l g u) :
    ∃ i : Fin 15, g = recvCell (ord c i.succ) c := by
  induction l with
  | nil => exact absurd h (Nat.lt_irrefl 0)
  | cons i l ih =>
    rw [oweSend_cons, Pi.add_apply, Finsupp.add_apply] at h
    by_cases hg : g = recvCell (ord c i.succ) c
    · exact ⟨i, hg⟩
    · rw [tallyAt_ne_cell hg, Finsupp.zero_apply, Nat.add_zero] at h; exact ih h

theorem oweSig_at (c : Dev nD) (l : List (Fin 15)) (g : GSem nD τ sig) (u : Unit) (h : 0 < oweSig c l g u) :
    ∃ i : Fin 15, g = barCell (sigDev c i) := by
  induction l with
  | nil => exact absurd h (Nat.lt_irrefl 0)
  | cons i l ih =>
    rw [oweSig_cons, Pi.add_apply, Finsupp.add_apply] at h
    by_cases hg : g = barCell (sigDev c i)
    · exact ⟨i, hg⟩
    · rw [tallyAt_ne_cell hg, Finsupp.zero_apply, Nat.add_zero] at h; exact ih h

/-- Every cell owed at launch is a TensorCore's and above level 0. -/
theorem O₀_at (c : Dev nD) (g : GSem nD τ sig) (u : Unit) (h : 0 < O₀ c g u) : u ∈ L g ∧ 0 < lv g u := by
  unfold O₀ at h
  rw [Pi.add_apply, Finsupp.add_apply] at h
  rcases Nat.eq_zero_or_pos (oweSend c downs g u) with h0 | h0
  · rw [h0, Nat.zero_add] at h
    obtain ⟨i, rfl⟩ := oweSig_at c ups g u h
    exact ⟨by rw [L_tc]; exact Finset.mem_singleton_self _, by cases u; rw [lv_bar]; decide⟩
  · obtain ⟨i, rfl⟩ := oweSend_at c downs g u h0
    exact ⟨by rw [L_tc]; exact Finset.mem_singleton_self _, by cases u; rw [lv_recv]; decide⟩

/-- The barrier wait may be made with the sends owed. -/
theorem mayWait_bar (c : Dev nD) (l : List (Fin 15)) :
    (levAts L lv : sProp 𝕄) ⊢ MayWait (c : Thread nD τ) (.reg barS.sem) () (oweSend c l) :=
  MayOwe.of_cut (L := L) (lev := lv) 1 (fun p hp => by rw [Finset.mem_singleton.mp hp, L_tc]; exact Finset.mem_singleton_self _)
    (fun g u hg => by obtain ⟨i, rfl⟩ := oweSend_at c l g u hg; rw [L_tc]; exact Finset.mem_singleton_self _)
    (fun p hp => by rw [Finset.mem_singleton.mp hp]; exact Nat.le_of_eq (lv_bar c))
    (fun g u hg => by obtain ⟨i, rfl⟩ := oweSend_at c l g u hg; cases u; rw [lv_recv]; decide)

/-! ### The cells of a device, and its invariants -/

/-- A device's own semaphores under the protocol, besides the barrier's. -/
abbrev OwnK : Type := Fin 15 ⊕ Dev nD ⊕ Fin 2
def osem : OwnK → SemLoc sig
  | .inl i => .dma (sendS i).sem
  | .inr (.inl j) => .dma (recvS j).sem
  | .inr (.inr s) => .dma (wS s).sem

theorem kind_inj : ∀ k k' : OwnK, kind (osem k) = kind (osem k') → k = k' := by
  intro k k'
  rcases k with i | j | s <;> rcases k' with i' | j' | s' <;> simp only [osem, kind_send, kind_recv, kind_w] <;> intro h <;> cases h <;> rfl
theorem osem_inj : Function.Injective osem := fun k k' h => kind_inj k k' (congrArg kind h)
theorem osem_ne_bar (k : OwnK) : osem k ≠ .reg barS.sem := by
  rcases k with i | j | s <;> intro h <;> cases h

def barEmb : Dev nD ↪ GSem nD τ sig := ⟨barCell, fun a b h => congrArg (fun g : GSem nD τ sig => g.1.1) h⟩
def ownEmb : Dev nD × OwnK ↪ GSem nD τ sig :=
  ⟨fun ck => ((ck.1 : Thread nD τ), osem ck.2), fun a b h => Prod.ext (congrArg (fun g : GSem nD τ sig => g.1.1) h) (osem_inj (congrArg Prod.snd h))⟩
def barCells : Finset (GSem nD τ sig) := Finset.univ.map barEmb
def ownCells : Finset (GSem nD τ sig) := Finset.univ.map ownEmb

theorem bar_mem (c : Dev nD) : barCell c ∈ barCells ∪ ownCells :=
  Finset.mem_union_left _ (Finset.mem_map_of_mem barEmb (Finset.mem_univ c))
theorem own_mem (c : Dev nD) (k : OwnK) : (((c : Thread nD τ), osem k) : GSem nD τ sig) ∈ barCells ∪ ownCells :=
  Finset.mem_union_right _ (Finset.mem_map_of_mem ownEmb (Finset.mem_univ (c, k)))

section Invs

variable (X : Dev nD → cc0_stg1_0.ty.Contents (Elt F)) (Wt : Dev nD → main_arg1.ty.Contents (Elt F))

/-- The invariants of all cells of all devices, at the names `K`, and that every barrier cell stands at its first round. -/
def invs (K : GSem nD τ sig → ℕ) : sProp 𝕄 :=
  iprop((bigSep (barCells ∪ ownCells) fun g => cellInv ER (Rd X Wt) (K g) g) ∗ bigSep barCells fun g => reached ER g 0)

instance invs_persistent (K : GSem nD τ sig → ℕ) : BI.Persistent (invs X Wt K) := by unfold invs; infer_instance

theorem inv_at (K : GSem nD τ sig → ℕ) {g : GSem nD τ sig} (hg : g ∈ barCells ∪ ownCells) :
    invs X Wt K ⊢ cellInv ER (Rd X Wt) (K g) g := by
  unfold invs
  iintro ⟨H, -⟩
  iapply (show (bigSep (barCells ∪ ownCells) fun g => (cellInv ER (Rd X Wt) (K g) g : sProp 𝕄)) ⊢ cellInv ER (Rd X Wt) (K g) g from bigSep_elim hg)
  iexact H

theorem inv_bar (K : GSem nD τ sig → ℕ) (c : Dev nD) : invs X Wt K ⊢ cellInv ER (Rd X Wt) (K (barCell c)) (barCell c) :=
  inv_at X Wt K (bar_mem c)
theorem inv_send (K : GSem nD τ sig → ℕ) (c : Dev nD) (i : Fin 15) :
    invs X Wt K ⊢ cellInv ER (Rd X Wt) (K (sendCell c i)) (sendCell c i) := inv_at X Wt K (own_mem c (.inl i))
theorem inv_recv (K : GSem nD τ sig → ℕ) (c j : Dev nD) :
    invs X Wt K ⊢ cellInv ER (Rd X Wt) (K (recvCell c j)) (recvCell c j) := inv_at X Wt K (own_mem c (.inr (.inl j)))
theorem inv_w (K : GSem nD τ sig → ℕ) (c : Dev nD) (s : Fin 2) :
    invs X Wt K ⊢ cellInv ER (Rd X Wt) (K (wCell c s)) (wCell c s) := inv_at X Wt K (own_mem c (.inr (.inr s)))

theorem bar_reached (K : GSem nD τ sig → ℕ) (c : Dev nD) : invs X Wt K ⊢ reached ER (barCell c) 0 := by
  unfold invs
  iintro ⟨-, H⟩
  iapply (show (bigSep barCells fun g => (reached ER g 0 : sProp 𝕄)) ⊢ reached ER (barCell c) 0 from
    bigSep_elim (Finset.mem_map_of_mem barEmb (Finset.mem_univ c)))
  iexact H

end Invs

end Cert.KernelIdeal.Steps

end
-- ==== Proof.Steps.lean ====
/-
Each step of the body, proved once for every position: what a device must hold to run it, and what it holds after.
-/
module

public import proofs.«01_k».proof.Proof.Protocol

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → cc0_stg1_0.ty.Contents (Elt F)) (Wt : Dev nD → main_arg1.ty.Contents (Elt F))
variable (K : GSem nD τ sig → ℕ) (c : Dev nD)

/-- What must hold for `p` to run on device `c` and leave `Q`. -/
abbrev runs (p : Pg F) (Q : PUnit.{1} → sProp 𝕄) : sProp 𝕄 := wp frame (wpE (defs₀ (F := F)) 𝒱₀ (c : Thread nD τ) none) Set.univ p Q

abbrev owing (O : CellTallies nD τ sig Unit) : sProp 𝕄 := iprop(∃ W, owes (c : Thread nD τ) O W)

/-! ### Reading a word of the order row -/

abbrev ordPts (ow : cc0_stg0_0.ty.Contents (Elt F)) : sProp 𝕄 := ordM.view.loc (c : Thread nD τ) ↦{fullShare} ow
abbrev xPts (x : cc0_stg1_0.ty.Contents (Elt F)) : sProp 𝕄 := xM.view.loc (c : Thread nD τ) ↦{fullShare} x
abbrev outPts (y : cc0_stg2_0.ty.Contents (Elt F)) : sProp 𝕄 := outM.view.loc (c : Thread nD τ) ↦{fullShare} y

/-- The row that is staged is device `c`'s row of the table. -/
def IsRow (ow : cc0_stg0_0.ty.Contents (Elt F)) : Prop :=
  ∀ (i : Fin 16) x, (ordM.access (ordR i)).read (Elt F) ow x = wd (ord c i)

variable {ow : cc0_stg0_0.ty.Contents (Elt F)}

theorem word_step {Q : PUnit.{1} → sProp 𝕄} (how : IsRow c ow) (i : Fin 16) (k : (v : BitVec 32) → k0_chk16 v → Pg F) :
    iprop(ordPts c ow ∗ (ordPts c ow -∗ runs c (k (wd (ord c i)) (chk16_ok _)) Q)) ⊢ runs c (wordK i k) Q := by
  unfold wordK runs
  simp only [smemLoad, smemLoadElt, Prog.lift, Prog.bind_op, Prog.bind_ret, Prog.pure_eq_ret, Prog.bind_assoc]
  iintro ⟨Ho, Hk⟩
  iapply (wp_load_rect 𝒱₀ (c : Thread nD τ) none Set.univ (m := ordM) (r := ordR i) (Finset.subset_univ _)) $$ Ho
  rw [how]
  iintro Ho
  iapply (wp_assume 𝒱₀ (c : Thread nD τ) none Set.univ (chk16_ok (ord c i)))
  iapply Hk
  iexact Ho

theorem roundWord_step {Q : PUnit.{1} → sProp 𝕄} (how : IsRow c ow) (i : Fin 16) (k : (v : BitVec 32) → k0_chk20 v → Pg F) :
    iprop(ordPts c ow ∗ (ordPts c ow -∗ runs c (k (wd (ord c i)) (chk20_ok _)) Q)) ⊢ runs c (roundWordK i k) Q := by
  unfold roundWordK runs
  simp only [smemLoad, smemLoadElt, Prog.lift, Prog.bind_op, Prog.bind_ret, Prog.pure_eq_ret, Prog.bind_assoc]
  iintro ⟨Ho, Hk⟩
  iapply (wp_load_rect 𝒱₀ (c : Thread nD τ) none Set.univ (m := ordM) (r := ordR i) (Finset.subset_univ _)) $$ Ho
  rw [how]
  iintro Ho
  iapply (wp_assume 𝒱₀ (c : Thread nD τ) none Set.univ (chk20_ok (ord c i)))
  iapply Hk
  iexact Ho

/-! ### The barrier -/

theorem signal_step {Q : PUnit.{1} → sProp 𝕄} (i : Fin 15) (O : CellTallies nD τ sig Unit) (W : Waits sig Unit) (k : Pg F) :
    iprop(invs X Wt K ∗ dutyTok ER (barCell (sigDev c i)) 0 c ∗ (∃ f, slotPts c (sigDev c i) f) ∗ reached ER (recvCell c (sigDev c i)) 0
        ∗ owes (c : Thread nD τ) (O + tallyAt (barCell (sigDev c i)) () 1) W ∗ (owes (c : Thread nD τ) O W -∗ runs c k Q))
      ⊢ runs c (semSignalWord (sigDev c i) barS.sem 1#32 >>= fun _ => k) Q := by
  unfold runs
  simp only [semSignalWord, Prog.lift, Prog.bind_op, Prog.bind_ret, Prog.pure_eq_ret, Prog.bind_assoc]
  rw [show (1#32 : BitVec 32).toInt = ((1#32 : BitVec 32).toNat : Int) from rfl]
  iintro ⟨#HI, Ht, Hs, #Hr, HO, Hk⟩
  iapply (Rounds.wp_signal 𝒱₀ ER (Rd X Wt) (c : Thread nD τ) none (dst := (sigDev c i : Thread nD τ)) (sem := barS.sem) (r := 0) (d := c)
      (κ := K (barCell (sigDev c i)))
      (by rw [duties_bar]; exact Finset.mem_erase.mpr ⟨(sigDev_ne c i).symm, Finset.mem_univ _⟩) (amount_bar X Wt (sigDev c i) 0 c) () O rfl)
    $$ [HO Ht Hs]
  · isplitr; · iapply (inv_bar X Wt K (sigDev c i)); iexact HI
    isplitl [HO]; · iexact HO
    isplitl [Ht]; · iexact Ht
    isplitl [Hs]
    · rw [payload_bar]; unfold barPay
      isplitl [Hs]; · iexact Hs
      iexact Hr
    · iapply (bar_reached X Wt K (sigDev c i)); iexact HI
  iintro HO
  iapply Hk
  iexact HO

theorem barrier_step {Q : PUnit.{1} → sProp 𝕄} (l : List (Fin 15)) (W : Waits sig Unit) (k : Pg F) :
    iprop(invs X Wt K ∗ levAts L lv ∗ cred (tallyAt (barCell c) () 15) ∗ owes (c : Thread nD τ) (oweSend c l) W ∗ atPos ER (barCell c) 0 ∅ 0
        ∗ ((owing c (oweSend c l) ∗ atPos ER (barCell c) 1 ∅ 0 ∗ bigSep (Finset.univ.erase c) (fun d => barPay c d)) -∗ runs c k Q))
      ⊢ runs c (semWaitWord barS.sem 15#32 >>= fun _ => k) Q := by
  unfold runs
  simp only [semWaitWord, Prog.lift, Prog.bind_op, Prog.bind_ret, Prog.pure_eq_ret, Prog.bind_assoc]
  rw [show (15#32 : BitVec 32).toInt = ((15#32 : BitVec 32).toNat : Int) from rfl]
  iintro ⟨#HI, #Hlev, Hc, HO, Hat, Hk⟩
  iapply (Rounds.wp_wait_rest_token 𝒱₀ ER (Rd X Wt) (c : Thread nD τ) none (κ := K (barCell c))
      (wpE_semWait_eq 𝒱₀ (c : Thread nD τ) none Set.univ) (Set.mem_univ _) () (O := oweSend c l) (W := W) (R := 0) (m := 0) (T := ∅)
      ((Nat.zero_add 15).trans (expect_bar X Wt c).symm)) $$ [Hc HO Hat]
  · isplitr; · iapply (inv_bar X Wt K c); iexact HI
    isplitl [Hc]; · iexact Hc
    isplitl [HO]; · iexact HO
    isplitr; · iapply (mayWait_bar c l); iexact Hlev
    iexact Hat
  iintro ⟨HO, Hat, -, Hpay⟩
  ihave Hp := (Entails.of_eq (rest_bar X Wt c)) $$ Hpay
  iapply Hk
  isplitl [HO]; · iexists _; iexact HO
  isplitl [Hat]; · iexact Hat
  iexact Hp

/-! ### A wait on a copy's semaphore, with nothing owed -/

theorem wait_step {Q : PUnit.{1} → sProp 𝕄} {sp sp' : Space} {s s' : Shape} {e e' : EltTy} {sem : DmaSem sig} {src : Memref sig .tc sp' s' e'}
    {dst : Memref sig .tc sp s e} {hsrc : src.view.WordExact} {hdst : dst.view.WordExact} (R n : ℕ) (hn : dst.view.dmaCredit = n)
    (he : (Rd X Wt).expect ((c : Thread nD τ), .dma sem) R = n) (hk : (((c : Thread nD τ), .dma sem) : GSem nD τ sig) ∈ barCells ∪ ownCells)
    (W : Waits sig Unit) (k : Pg F) :
    iprop(invs X Wt K ∗ cred (tallyAt ((c : Thread nD τ), .dma sem) () n) ∗ owes (c : Thread nD τ) 0 W ∗ atPos ER ((c : Thread nD τ), .dma sem) R ∅ 0
        ∗ ((owing c 0 ∗ atPos ER ((c : Thread nD τ), .dma sem) (R + 1) ∅ 0 ∗ reached ER ((c : Thread nD τ), .dma sem) (R + 1)
            ∗ bigSep ((Rd X Wt).duties ((c : Thread nD τ), .dma sem) R \ ∅) (fun d => (Rd X Wt).payload ((c : Thread nD τ), .dma sem) R d))
          -∗ runs c k Q))
      ⊢ runs c (.op (.waitDma2 sem src dst hsrc hdst) fun _ => k) Q := by
  subst hn
  unfold runs
  iintro ⟨#HI, Hc, HO, Hat, Hk⟩
  iapply (Rounds.wp_wait_rest_token 𝒱₀ ER (Rd X Wt) (c : Thread nD τ) none (κ := K ((c : Thread nD τ), .dma sem))
      (wpE_waitDma2_eq 𝒱₀ (c : Thread nD τ) none Set.univ) (Set.mem_univ _) () (O := 0) (W := W) (R := R) (m := 0) (T := ∅)
      ((Nat.zero_add _).trans he.symm)) $$ [Hc HO Hat]
  · isplitr; · iapply (inv_at X Wt K hk); iexact HI
    isplitl [Hc]; · iexact Hc
    isplitl [HO]; · iexact HO
    isplitr; · rw [MayWait_zero]; iempintro
    iexact Hat
  iintro ⟨HO, Hat, Hr, Hpay⟩
  iapply Hk
  isplitl [HO]; · iexists _; iexact HO
  isplitl [Hat]; · iexact Hat
  isplitl [Hr]; · iexact Hr
  iexact Hpay

/-! ### A send -/

theorem src_read (p : Dev nD) (f : Buf (Elt F) ((srcM (wd p) (chk1_ok p)).view.loc (c : Thread nD τ))) (w : Vec F S512x512 .bf16) :
    (srcM (wd p) (chk1_ok p)).view.read (Elt F) ((xbM.access (rowR (wd p) (chk1_ok p))).write (Elt F) f w Finset.univ) = w :=
  (srcM (wd p) (chk1_ok p)).view.read_write_univ (Val := Elt F) f w

/-- A block that has left pays its send cell. -/
theorem send_pay (i : Fin 15) (f : Buf (Elt F) ((srcM (wd (ord c i.succ)) (chk1_ok (ord c i.succ))).view.loc (c : Thread nD τ))) (r : ℕ) (d : Dev nD) :
    xbPts c (ord c i.succ) f ⊢ (Rd X Wt).payload (sendCell c i) r d := by
  rw [payload_send]; unfold sendPay
  iintro H
  iexists f
  iexact H

/-- A block that has landed pays the receiver's cell. -/
theorem land_pay (p : Dev nD) (fd : Buf (Elt F) ((dstM c).view.loc (p : Thread nD τ))) (x : Vec F S512x512 .bf16) (hx : x = blockX X c p) (r : ℕ) (d : Dev nD) :
    slotPts p c ((dstM c).view.write (Elt F) fd x Finset.univ) ⊢ (Rd X Wt).payload (recvCell p c) r d := by
  rw [payload_recv]; unfold recvPay owns
  iintro H
  iexists ((dstM c).view.write (Elt F) fd x Finset.univ)
  isplitr
  · ipureintro; exact ((dstM c).view.read_write_univ (Val := Elt F) fd x).trans hx
  iexact H

/-- The copy itself, to a device `d` that is the one the word names. -/
theorem copy_out {Q : PUnit.{1} → sProp 𝕄} (i : Fin 15) (d : Dev nD) (hd : d = ord c i.succ)
    {hsc : (dstM c).view.ref.isScScratch = false} {h1 : (srcM (wd (ord c i.succ)) (chk1_ok (ord c i.succ))).view.WordExact} {h2 : (dstM c).view.WordExact}
    {h3 : DmaTarget.Typed .vmem (.dma (recvS c).sem) (.remote (Dev.tc d) (dstM c) (.dma (sendS i).sem) hsc)}
    (O : CellTallies nD τ sig Unit) (W : Waits sig Unit) (k : Pg F)
    (fb : Buf (Elt F) ((srcM (wd (ord c i.succ)) (chk1_ok (ord c i.succ))).view.loc (c : Thread nD τ)))
    (hfb : (srcM (wd (ord c i.succ)) (chk1_ok (ord c i.succ))).view.read (Elt F) fb = blockX X c (ord c i.succ)) :
    iprop(invs X Wt K ∗ xbPts c (ord c i.succ) fb ∗ barPay c (ord c i.succ)
        ∗ dutyTok ER (sendCell c i) 0 0 ∗ reached ER (sendCell c i) 0 ∗ dutyTok ER (recvCell (ord c i.succ) c) 0 c
        ∗ owes (c : Thread nD τ) (O + tallyAt (recvCell (ord c i.succ) c) () N) W
        ∗ ((cred (tallyAt (sendCell c i) () N) ∗ owes (c : Thread nD τ) O W) -∗ runs c k Q))
      ⊢ runs c (.op (.enqueueDma (srcM (wd (ord c i.succ)) (chk1_ok (ord c i.succ))) (.remote (Dev.tc d) (dstM c) (.dma (sendS i).sem) hsc) (.dma (recvS c).sem) h1 h2 h3) fun _ => k) Q := by
  have hne : c ≠ ord c i.succ := fun h => absurd (ord_inj c 0 i.succ ((ord_zero c).trans h)) (Fin.succ_ne_zero i).symm
  subst hd
  unfold runs barPay
  iintro ⟨#HI, Hb, ⟨⟨%fs, Hs⟩, #HrV⟩, HtS, #HrS, HtV, HO, Hk⟩
  iapply (Rounds.wp_send_pointsTo 𝒱₀ ER (Rd X Wt) (c : Thread nD τ) none (c' := (ord c i.succ : Thread nD τ)) (src := srcM (wd (ord c i.succ)) (chk1_ok (ord c i.succ)))
      (dst := dstM c) (sS := .dma (sendS i).sem) (sem := .dma (recvS c).sem) (q := fullShare) (κ₁ := K (sendCell c i)) (κ₂ := K (recvCell (ord c i.succ) c))
      (r₁ := 0) (r₂ := 0) (d₁ := 0) (d₂ := c) (fs := fb) (fd := fs)
      (by rw [duties_send]; exact Finset.mem_singleton_self _) (by rw [duties_recv X Wt _ _ hne]; exact Finset.mem_singleton_self _)
      () () N (dst_amount c c) (amount_send X Wt c i 0 0) (amount_recv X Wt _ c 0 c) O rfl (W := W)
      (send_pay X Wt c i fb 0 0) (land_pay X Wt c (ord c i.succ) fs _ hfb 0 c)) $$ [Hb Hs HO HtS HtV]
  · isplitr; · iapply (inv_send X Wt K c i); iexact HI
    isplitr; · iapply (inv_recv X Wt K (ord c i.succ) c); iexact HI
    isplitl [Hb]; · iexact Hb
    isplitl [Hs]; · iexact Hs
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexact HO

theorem send_step {Q : PUnit.{1} → sProp 𝕄} (how : IsRow c ow) (i : Fin 15) (O : CellTallies nD τ sig Unit) (W : Waits sig Unit) (k : SW → Pg F) :
    iprop(invs X Wt K ∗ ordPts c ow ∗ xPts c (X c) ∗ (∃ f, xbPts c (ord c i.succ) f) ∗ barPay c (ord c i.succ)
        ∗ dutyTok ER (sendCell c i) 0 0 ∗ reached ER (sendCell c i) 0 ∗ dutyTok ER (recvCell (ord c i.succ) c) 0 c
        ∗ owes (c : Thread nD τ) (O + tallyAt (recvCell (ord c i.succ) c) () N) W
        ∗ ((ordPts c ow ∗ xPts c (X c) ∗ cred (tallyAt (sendCell c i) () N) ∗ owes (c : Thread nD τ) O W)
            -∗ runs c (k ⟨wd (ord c i.succ), chk1_ok _⟩) Q))
      ⊢ runs c (sendK c i k) Q := by
  unfold sendK runs
  simp only [smemLoad, smemLoadElt, Prog.lift, Prog.bind_op, Prog.bind_ret, Prog.pure_eq_ret, Prog.bind_assoc]
  iintro ⟨#HI, Ho, Hx, ⟨%fb, Hb⟩, Hs, HtS, #HrS, HtV, HO, Hk⟩
  iapply (wp_load_rect 𝒱₀ (c : Thread nD τ) none Set.univ (m := ordM) (r := ordR i.succ) (Finset.subset_univ _)) $$ Ho
  rw [how]
  iintro Ho
  iapply (wp_assume 𝒱₀ (c : Thread nD τ) none Set.univ (chk1_ok (ord c i.succ)))
  iapply (wp_load_rect 𝒱₀ (c : Thread nD τ) none Set.univ (m := xM) (r := rowR (wd (ord c i.succ)) (chk1_ok _)) (Finset.subset_univ _)) $$ Hx
  iintro Hx
  iapply (wp_load_rect 𝒱₀ (c : Thread nD τ) none Set.univ (m := xbM) (r := rowR (wd (ord c i.succ)) (chk1_ok _))
    (S := (srcM (wd (ord c i.succ)) (chk1_ok _)).view.set) (Finset.Subset.refl _)) $$ Hb
  iintro Hb
  iapply (wp_store 𝒱₀ (c : Thread nD τ) none Set.univ (m := xbM) (r := rowR (wd (ord c i.succ)) (chk1_ok _)) (Mk := Finset.univ)
    (S := (srcM (wd (ord c i.succ)) (chk1_ok _)).view.set) (Finset.Subset.refl _)) $$ Hb
  iintro Hb
  iapply (copy_out X Wt K c i _ (dev_wd _ _) O W _ _ (src_read c (ord c i.succ) fb (blockX X c (ord c i.succ))))
  isplitr; · iexact HI
  isplitl [Hb]; · iexact Hb
  isplitl [Hs]; · iexact Hs
  isplitl [HtS]; · iexact HtS
  isplitr; · iexact HrS
  isplitl [HtV]; · iexact HtV
  isplitl [HO]; · iexact HO
  iintro ⟨Hc, HO⟩
  iapply Hk
  isplitl [Ho]; · iexact Ho
  isplitl [Hx]; · iexact Hx
  isplitl [Hc]; · iexact Hc
  iexact HO

/-! ### The copies of weight rows -/

theorem start_pay (s : Fin 2) (r : ℕ) (p : Dev nD) (hp : p = ord c (roundOf s r)) (fd : Buf (Elt F) ((wslotM s).view.loc (c : Thread nD τ))) (d : Dev nD) :
    iprop(wbPts c s ((wslotM s).view.write (Elt F) fd (rowsW Wt c p) Finset.univ) ∗ wrowPts Wt c p) ⊢ (Rd X Wt).payload (wCell c s) r d := by
  subst hp
  rw [payload_w]; unfold rowsPay owns
  iintro ⟨H, HW⟩
  isplitl [H]
  · iexists ((wslotM s).view.write (Elt F) fd (rowsW Wt c (ord c (roundOf s r))) Finset.univ)
    isplitr
    · ipureintro; exact (wslotM s).view.read_write_univ (Val := Elt F) fd _
    iexact H
  iexact HW

theorem start_step {Q : PUnit.{1} → sProp 𝕄} (s : Fin 2) (r : ℕ) (hr : r < 8) (p : Dev nD) (hp : p = ord c (roundOf s r)) (k : Pg F) :
    iprop(invs X Wt K ∗ wrowPts Wt c p ∗ (∃ f, wbPts c s f) ∗ dutyTok ER (wCell c s) r 0 ∗ reached ER (wCell c s) r
        ∗ (cred (tallyAt (wCell c s) () NW) -∗ runs c k Q))
      ⊢ runs c (startK s (wd p) (chk16_ok p) k) Q := by
  unfold startK runs
  simp only [Prog.lift, Prog.bind_op, Prog.bind_ret]
  iintro ⟨#HI, HW, ⟨%f, Hb⟩, Ht, #Hr, Hk⟩
  iapply (Rounds.wp_copy_pointsTo 𝒱₀ ER (Rd X Wt) (c : Thread nD τ) none (src := wrowM (wd p) (chk16_ok p)) (dst := wslotM s) (sem := .dma (wS s).sem)
      (q := fullShare) (fs := Wt c) (fd := f) (r := r) (d := 0) (κ := K (wCell c s))
      (by rw [duties_w X Wt c s r hr]; exact Finset.mem_singleton_self _) () NW (wslot_amount s s) (amount_w X Wt c s r 0)
      (start_pay X Wt c s r p hp f 0)) $$ [HW Hb Ht]
  · isplitr; · iapply (inv_w X Wt K c s); iexact HI
    isplitl [HW]; · iexact HW
    isplitl [Hb]; · iexact Hb
    isplitl [Ht]; · iexact Ht
    iexact Hr
  iintro Hc
  iapply Hk
  iexact Hc

theorem waitW_step {Q : PUnit.{1} → sProp 𝕄} (s : Fin 2) (r : ℕ) (hr : r < 8) (v : BitVec 32) (h : k0_chk16 v) (k : Pg F) :
    iprop(invs X Wt K ∗ cred (tallyAt (wCell c s) () NW) ∗ owing c 0 ∗ atPos ER (wCell c s) r ∅ 0
        ∗ ((owing c 0 ∗ atPos ER (wCell c s) (r + 1) ∅ 0 ∗ reached ER (wCell c s) (r + 1) ∗ rowsPay Wt c s (ord c (roundOf s r))) -∗ runs c k Q))
      ⊢ runs c (waitWK s v h k) Q := by
  unfold waitWK
  simp only [Prog.lift, Prog.bind_op, Prog.bind_ret]
  iintro ⟨#HI, Hc, ⟨%W, HO⟩, Hat, Hk⟩
  iapply (wait_step X Wt K c (sem := (wS s).sem) r NW (by unfold NW; rfl) (expect_w X Wt c s r hr) (own_mem c (.inr (.inr s))) W)
  isplitr; · iexact HI
  isplitl [Hc]; · iexact Hc
  isplitl [HO]; · iexact HO
  isplitl [Hat]; · iexact Hat
  iintro ⟨HO, Hat, Hr, Hp⟩
  ihave Hp := (Entails.of_eq (rest_w X Wt c s r hr)) $$ Hp
  iapply Hk
  isplitl [HO]; · iexact HO
  isplitl [Hat]; · iexact Hat
  isplitl [Hr]; · iexact Hr
  iexact Hp

/-! ### The device's own block -/

theorem own_step {Q : PUnit.{1} → sProp 𝕄} (k : Pg F) :
    iprop(xPts c (X c) ∗ (∃ f, xbPts c c f)
        ∗ ((xPts c (X c) ∗ owns (c : Thread nD τ) (srcM (wd c) (chk1_ok c)) fullShare (blockX X c c)) -∗ runs c k Q))
      ⊢ runs c (ownK c k) Q := by
  unfold ownK runs owns
  simp only [Prog.lift, Prog.bind_op, Prog.bind_ret]
  have key : ∀ (o : Fin 2 → ℕ) (ho : o = k0_off1 (wd c)) (h1 : ∀ a, o a + S512x512.size a ≤ S8192x512.size a)
      {hl : xM.view.LoadsAt (Rect.unit (s := S8192x512) o S512x512.size h1).toLoadRect}
      {hl' : xbM.view.LoadsAt (Rect.unit (s := S8192x512) o S512x512.size h1).toLoadRect}
      {hs : (xbM.access (Rect.unit (s := S8192x512) o S512x512.size h1)).Stores Finset.univ} {hm},
      iprop(xPts c (X c) ∗ (∃ f, xbPts c c f) ∗ ((xPts c (X c) ∗ owns (c : Thread nD τ) (srcM (wd c) (chk1_ok c)) fullShare (blockX X c c)) -∗ runs c k Q))
        ⊢ runs c (.op (.load xM (Rect.unit (s := S8192x512) o S512x512.size h1).toLoadRect hl) fun x =>
            .op (.load xbM (Rect.unit (s := S8192x512) o S512x512.size h1).toLoadRect hl') fun _ =>
            .op (.store xbM (Rect.unit (s := S8192x512) o S512x512.size h1) (k0_pay18 x) Finset.univ hs hm) fun _ => k) Q := by
    intro o ho h1 hl hl' hs hm
    subst ho
    unfold runs owns
    iintro ⟨Hx, ⟨%fb, Hb⟩, Hk⟩
    iapply (wp_load_rect 𝒱₀ (c : Thread nD τ) none Set.univ (m := xM) (r := rowR (wd c) (chk1_ok _)) (Finset.subset_univ _)) $$ Hx
    iintro Hx
    iapply (wp_load_rect 𝒱₀ (c : Thread nD τ) none Set.univ (m := xbM) (r := rowR (wd c) (chk1_ok _))
      (S := (srcM (wd c) (chk1_ok _)).view.set) (Finset.Subset.refl _)) $$ Hb
    iintro Hb
    iapply (wp_store 𝒱₀ (c : Thread nD τ) none Set.univ (m := xbM) (r := rowR (wd c) (chk1_ok _)) (Mk := Finset.univ)
      (S := (srcM (wd c) (chk1_ok _)).view.set) (Finset.Subset.refl _)) $$ Hb
    iintro Hb
    iapply Hk
    isplitl [Hx]; · iexact Hx
    iexists ((xbM.access (rowR (wd c) (chk1_ok c))).write (Elt F) fb (blockX X c c) Finset.univ)
    isplitr
    · ipureintro; exact src_read c c fb (blockX X c c)
    iexact Hb
  exact key (k0_off61 c) (off61_dev c) (k0_off61_inb c)

end Cert.KernelIdeal.Steps

end
-- ==== Proof.Turns.lean ====
/-
The products of the rounds: what each adds to the result, and the step that adds it; and the waits at the end.
-/
module

public import proofs.«01_k».proof.Proof.Steps

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A block by its weight rows, from zero. -/
def prodOf (x : Vec F S512x512 .bf16) (w : Vec F S512x4096 .bf16) : FVec F S512x4096 .f32 :=
  matmul dot_S512x512_S512x4096_S512x4096_1_0_0_1_n_n none (show FVec F S512x512 .bf16 from x) (show FVec F S512x4096 .bf16 from w)
    (constant S512x4096 .f32 0x00000000#32)
/-- A later round's sum. -/
def accOf (x : Vec F S512x512 .bf16) (w : Vec F S512x4096 .bf16) (y : FVec F S512x4096 .f32) : FVec F S512x4096 .f32 :=
  addf (shapeCast S512x4096 y shapeCasts_S512x4096_S512x4096) (prodOf x w)

variable (X : Dev nD → cc0_stg1_0.ty.Contents (Elt F)) (Wt : Dev nD → main_arg1.ty.Contents (Elt F))
variable (K : GSem nD τ sig → ℕ) (c : Dev nD)

/-- The result after rounds `0 … t`. -/
def outAt : ℕ → FVec F S512x4096 .f32
  | 0 => prodOf (blockX X c c) (rowsW Wt c c)
  | t + 1 => accOf (blockX X (ord c ⟨(t + 1) % 16, Nat.mod_lt _ (by decide)⟩) c) (rowsW Wt c (ord c ⟨(t + 1) % 16, Nat.mod_lt _ (by decide)⟩)) (outAt t)

theorem pay19_eq (h : k0_chk1 (wd c)) (f : (cc0_scratch0 : Ref sig .tc).ty.Contents (Elt F)) (g : (cc0_scratch2 : Ref sig .tc).ty.Contents (Elt F)) :
    k0_pay19 ((xbM.access (rowR (wd c) h)).read (Elt F) f) ((wbufM.access (wslotR 0)).read (Elt F) g)
      = prodOf ((srcM (wd c) h).view.read (Elt F) f) ((wslotM 0).view.read (Elt F) g) := rfl

theorem pay20_eq (s : Fin 2) (j : Dev nD) (f : (cc0_scratch1 : Ref sig .tc).ty.Contents (Elt F)) (g : (cc0_scratch2 : Ref sig .tc).ty.Contents (Elt F))
    (y : FVec F S512x4096 .f32) :
    k0_pay20 ((commM.access (Rect.unit (s := S16x512x512) (k0_off3 j) S1x512x512.size (k0_off3_inb j))).read (Elt F) f)
        ((wbufM.access (wslotR s)).read (Elt F) g) y
      = accOf ((dstM j).view.read (Elt F) f) ((wslotM s).view.read (Elt F) g) y := rfl

theorem zero_off : (![0, 0] : Fin 2 → ℕ) = fun _ => 0 := by funext a; fin_cases a <;> rfl
theorem read_out (f : (cc0_stg2_0 : Ref sig .tc).ty.Contents (Elt F)) : outM.view.readAt (Elt F) outR.toLoadRect f = f :=
  Memref.readAt_unit_zero (Elt F) cc0_stg2_0 zero_off _ f
theorem write_out (f w : (cc0_stg2_0 : Ref sig .tc).ty.Contents (Elt F)) : (outM.access outR).write (Elt F) f w Finset.univ = w :=
  Memref.write_access_unit_zero_univ (Elt F) cc0_stg2_0 zero_off _ f w

/-- The slot `s` of the weight buffer is what the program's access to it reaches. -/
theorem wslot_set (s : Fin 2) : (wbufM.access (wslotR s)).set = (wslotM s).view.set := (View.set_reshape _ _).symm
theorem dst_set (j : Dev nD) :
    (commM.access (Rect.unit (s := S16x512x512) (k0_off3 j) S1x512x512.size (k0_off3_inb j))).set = (dstM j).view.set := (View.set_reshape _ _).symm

theorem first_step {Q : PUnit.{1} → sProp 𝕄} (B : Vec F S512x512 .bf16) (w : Vec F S512x4096 .bf16) (y : cc0_stg2_0.ty.Contents (Elt F)) (k : Pg F) :
    iprop(owns (c : Thread nD τ) (srcM (wd c) (chk1_ok c)) fullShare B ∗ owns (c : Thread nD τ) (wslotM 0) fullShare w ∗ outPts c y
        ∗ (((∃ f, xbPts c c f) ∗ (∃ f, wbPts c 0 f) ∗ outPts c (prodOf B w)) -∗ runs c k Q))
      ⊢ runs c (firstK c k) Q := by
  unfold firstK
  simp only [Prog.lift, Prog.bind_op, Prog.bind_ret]
  have key : ∀ (o : Fin 2 → ℕ) (ho : o = k0_off1 (wd c)) (h1 : ∀ a, o a + S512x512.size a ≤ S8192x512.size a)
      {hl : xbM.view.LoadsAt (Rect.unit (s := S8192x512) o S512x512.size h1).toLoadRect}
      {hl' : wbufM.view.LoadsAt (wslotR 0).toLoadRect} {hl'' : outM.view.LoadsAt outR.toLoadRect}
      {hs : (outM.access outR).Stores Finset.univ} {hm},
      iprop(owns (c : Thread nD τ) (srcM (wd c) (chk1_ok c)) fullShare B ∗ owns (c : Thread nD τ) (wslotM 0) fullShare w ∗ outPts c y
          ∗ (((∃ f, xbPts c c f) ∗ (∃ f, wbPts c 0 f) ∗ outPts c (prodOf B w)) -∗ runs c k Q))
        ⊢ runs c (.op (.load xbM (Rect.unit (s := S8192x512) o S512x512.size h1).toLoadRect hl) fun x =>
            .op (.load wbufM (wslotR 0).toLoadRect hl') fun w => .op (.load outM outR.toLoadRect hl'') fun _ =>
            .op (.store outM outR (k0_pay19 x w) Finset.univ hs hm) fun _ => k) Q := by
    intro o ho h1 hl hl' hl'' hs hm
    subst ho
    unfold runs owns
    iintro ⟨⟨%f, %hf, Hx⟩, ⟨%g, %hg, Hw⟩, Hy, Hk⟩
    iapply (wp_load_rect 𝒱₀ (c : Thread nD τ) none Set.univ (m := xbM) (r := rowR (wd c) (chk1_ok _))
      (S := (srcM (wd c) (chk1_ok _)).view.set) (Finset.Subset.refl _)) $$ Hx
    iintro Hx
    iapply (wp_load_rect 𝒱₀ (c : Thread nD τ) none Set.univ (m := wbufM) (r := wslotR 0)
      (S := (wslotM 0).view.set) (Finset.Subset.antisymm_iff.mp (wslot_set 0)).1) $$ Hw
    iintro Hw
    rw [pay19_eq c (chk1_ok c) f g, hf, hg]
    iapply (wp_load 𝒱₀ (c : Thread nD τ) none Set.univ (m := outM) (Finset.subset_univ _)) $$ Hy
    iintro Hy
    iapply (wp_store 𝒱₀ (c : Thread nD τ) none Set.univ (m := outM) (r := outR) (Mk := Finset.univ) (Finset.subset_univ _)) $$ Hy
    iintro Hy
    rw [write_out y (prodOf B w)]
    iapply Hk
    isplitl [Hx]; · iexists f; iexact Hx
    isplitl [Hw]; · iexists g; iexact Hw
    iexact Hy
  exact key (k0_off65 c) (off65_dev c) (k0_off65_inb c)

/-- The semaphore that a word names, by the device that it names. -/
theorem recvS_of (j : Dev nD) (o : Fin 1 → ℕ) (ho : o = k0_off2 j) (h : ∀ a, o a + S1.size a ≤ S16.size a) :
    ((cc0_scratch4.slice (Rect.unit (s := S16) o S1.size h)).squeeze S_ squeezes_S1_S_).sem = (recvS j).sem := by
  subst ho; rfl

theorem acc_step {Q : PUnit.{1} → sProp 𝕄} (s : Fin 2) (j : Dev nD) (hj : j ≠ c) (w : Vec F S512x4096 .bf16) (y : FVec F S512x4096 .f32) (h : k0_chk20 (wd j)) (k : Pg F) :
    iprop(invs X Wt K ∗ cred (tallyAt (recvCell c j) () N) ∗ owing c 0 ∗ atPos ER (recvCell c j) 0 ∅ 0
        ∗ owns (c : Thread nD τ) (wslotM s) fullShare w ∗ outPts c y
        ∗ ((owing c 0 ∗ atPos ER (recvCell c j) 1 ∅ 0 ∗ (∃ f, slotPts c j f) ∗ (∃ f, wbPts c s f) ∗ outPts c (accOf (blockX X j c) w y)) -∗ runs c k Q))
      ⊢ runs c (accK s (wd j) h k) Q := by
  unfold accK
  simp only [Prog.lift, Prog.bind_op, Prog.bind_ret]
  rw [recvS_of j _ (off68_wd j |>.trans ((off68_wd j).symm.trans (off2_dev j).symm))]
  iintro ⟨#HI, Hc, ⟨%W, HO⟩, Hat, Hw, Hy, Hk⟩
  iapply (wait_step X Wt K c (sem := (recvS j).sem) 0 N (by unfold N; rfl) (expect_recv X Wt c j hj) (own_mem c (.inr (.inl j))) W)
  isplitr; · iexact HI
  isplitl [Hc]; · iexact Hc
  isplitl [HO]; · iexact HO
  isplitl [Hat]; · iexact Hat
  iintro ⟨HO, Hat, -, Hp⟩
  ihave Hp := (Entails.of_eq (rest_recv X Wt c j hj)) $$ Hp
  have key : ∀ (o : Fin 3 → ℕ) (ho : o = k0_off3 j) (h1 : ∀ a, o a + S1x512x512.size a ≤ S16x512x512.size a)
      {hl : commM.view.LoadsAt (Rect.unit (s := S16x512x512) o S1x512x512.size h1).toLoadRect}
      {hl' : wbufM.view.LoadsAt (wslotR s).toLoadRect} {hl'' : outM.view.LoadsAt outR.toLoadRect} {hl₃ : outM.view.LoadsAt outR.toLoadRect}
      {hs : (outM.access outR).Stores Finset.univ} {hm},
      iprop(recvPay X c j ∗ owns (c : Thread nD τ) (wslotM s) fullShare w ∗ outPts c y
          ∗ (((∃ f, slotPts c j f) ∗ (∃ f, wbPts c s f) ∗ outPts c (accOf (blockX X j c) w y)) -∗ runs c k Q))
        ⊢ runs c (.op (.load commM (Rect.unit (s := S16x512x512) o S1x512x512.size h1).toLoadRect hl) fun x =>
            .op (.load wbufM (wslotR s).toLoadRect hl') fun w => .op (.load outM outR.toLoadRect hl'') fun y =>
            .op (.load outM outR.toLoadRect hl₃) fun _ =>
            .op (.store outM outR (k0_pay20 x w y) Finset.univ hs hm) fun _ => k) Q := by
    intro o ho h1 hl hl' hl'' hl₃ hs hm
    subst ho
    unfold runs recvPay owns
    iintro ⟨⟨%f, %hf, Hx⟩, ⟨%g, %hg, Hw⟩, Hy, Hk⟩
    iapply (wp_load_rect 𝒱₀ (c : Thread nD τ) none Set.univ (m := commM) (r := Rect.unit (s := S16x512x512) (k0_off3 j) S1x512x512.size h1)
      (S := (dstM j).view.set) (Finset.Subset.antisymm_iff.mp (dst_set j)).1) $$ Hx
    iintro Hx
    iapply (wp_load_rect 𝒱₀ (c : Thread nD τ) none Set.univ (m := wbufM) (r := wslotR s)
      (S := (wslotM s).view.set) (Finset.Subset.antisymm_iff.mp (wslot_set s)).1) $$ Hw
    iintro Hw
    iapply (wp_load 𝒱₀ (c : Thread nD τ) none Set.univ (m := outM) (Finset.subset_univ _)) $$ Hy
    iintro Hy
    rw [read_out y]
    iapply (wp_load 𝒱₀ (c : Thread nD τ) none Set.univ (m := outM) (Finset.subset_univ _)) $$ Hy
    iintro Hy
    rw [pay20_eq s j f g y, hf, hg]
    iapply (wp_store 𝒱₀ (c : Thread nD τ) none Set.univ (m := outM) (r := outR) (Mk := Finset.univ) (Finset.subset_univ _)) $$ Hy
    iintro Hy
    rw [write_out y (accOf (blockX X j c) w y)]
    iapply Hk
    isplitl [Hx]; · iexists f; iexact Hx
    isplitl [Hw]; · iexists g; iexact Hw
    iexact Hy
  iapply (key (k0_off70 (wd j)) (off70_dev j) (k0_off70_inb (wd j) h))
  isplitl [Hp]; · iexact Hp
  isplitl [Hw]; · iexact Hw
  isplitl [Hy]; · iexact Hy
  iintro ⟨Hx, Hw, Hy⟩
  iapply Hk
  isplitl [HO]; · iexact HO
  isplitl [Hat]; · iexact Hat
  isplitl [Hx]; · iexact Hx
  isplitl [Hw]; · iexact Hw
  iexact Hy

end Cert.KernelIdeal.Steps

end
-- ==== Proof.Lists.lean ====
/-
The steps over lists: the signals, the sends, the rounds between the first and the last, and the waits at the end, each by
induction over the list of its positions from the one step that Steps and Turns prove.
-/
module

public import proofs.«01_k».proof.Proof.Turns
public import Idealize.ShloMosaic.Lib.Pipeline.BigSepL

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → cc0_stg1_0.ty.Contents (Elt F)) (Wt : Dev nD → main_arg1.ty.Contents (Elt F))
variable (K : GSem nD τ sig → ℕ) (c : Dev nD) {ow : cc0_stg0_0.ty.Contents (Elt F)}

/-! ### Signals -/

/-- What signal `i` takes: its duty's token, and the slot that it hands over. -/
def sigIn (i : Fin 15) : sProp 𝕄 :=
  iprop(dutyTok ER (barCell (sigDev c i)) 0 c ∗ (∃ f, slotPts c (sigDev c i) f) ∗ reached ER (recvCell c (sigDev c i)) 0)

theorem signals_wp {Q : PUnit.{1} → sProp 𝕄} (O : CellTallies nD τ sig Unit) (W : Waits sig Unit) (k : Pg F) (l : List (Fin 15)) :
    iprop(invs X Wt K ∗ bigSepL l (sigIn c) ∗ owes (c : Thread nD τ) (O + oweSig c l) W ∗ (owes (c : Thread nD τ) O W -∗ runs c k Q))
      ⊢ runs c (signalsK c l k) Q := by
  induction l with
  | nil =>
    rw [show oweSig c [] = 0 from rfl, add_zero, signalsK]
    iintro ⟨#HI, -, HO, Hk⟩
    iapply Hk
    iexact HO
  | cons i l ih =>
    rw [oweSig_cons, ← add_assoc, signalsK, bigSepL_cons']
    unfold sigIn
    iintro ⟨#HI, ⟨⟨Ht, Hs, Hr⟩, Hl⟩, HO, Hk⟩
    iapply (signal_step X Wt K c i (O + oweSig c l) W _)
    isplitr; · iexact HI
    isplitl [Ht]; · iexact Ht
    isplitl [Hs]; · iexact Hs
    isplitl [Hr]; · iexact Hr
    isplitl [HO]; · iexact HO
    iintro HO
    iapply ih
    isplitr; · iexact HI
    isplitl [Hl]; · unfold sigIn; iexact Hl
    isplitl [HO]; · iexact HO
    iexact Hk

/-! ### Sends -/

/-- The words that the sends of a list read. -/
def words (l : List (Fin 15)) : List (Fin 15 × SW) := l.map fun i => (i, ⟨wd (ord c i.succ), chk1_ok _⟩)

/-- What send `i` takes: the place in the send buffer, what its target gave at the barrier, and the tokens of both its duties. -/
def sendIn (i : Fin 15) : sProp 𝕄 :=
  iprop((∃ f, xbPts c (ord c i.succ) f) ∗ barPay c (ord c i.succ) ∗ dutyTok ER (sendCell c i) 0 0 ∗ reached ER (sendCell c i) 0
    ∗ dutyTok ER (recvCell (ord c i.succ) c) 0 c)

theorem sends_wp {Q : PUnit.{1} → sProp 𝕄} (how : IsRow c ow) (W : Waits sig Unit) (l : List (Fin 15)) (k : List (Fin 15 × SW) → Pg F) :
    iprop(invs X Wt K ∗ ordPts c ow ∗ xPts c (X c) ∗ bigSepL l (sendIn c) ∗ owes (c : Thread nD τ) (oweSend c l) W
        ∗ ((ordPts c ow ∗ xPts c (X c) ∗ bigSepL l (fun i => cred (tallyAt (sendCell c i) () N)) ∗ owes (c : Thread nD τ) 0 W)
            -∗ runs c (k (words c l)) Q))
      ⊢ runs c (sendsK c l k) Q := by
  induction l generalizing k with
  | nil =>
    rw [show oweSend c [] = 0 from rfl, sendsK]
    iintro ⟨#HI, Ho, Hx, Hl, HO, Hk⟩
    iapply Hk
    isplitl [Ho]; · iexact Ho
    isplitl [Hx]; · iexact Hx
    isplitl [Hl]; · iexact Hl
    iexact HO
  | cons i l ih =>
    rw [oweSend_cons, sendsK, bigSepL_cons', bigSepL_cons']
    iintro ⟨#HI, Ho, Hx, ⟨Hi, Hl⟩, HO, Hk⟩
    unfold sendIn
    icases Hi with ⟨Hb, Hp, Ht, Hr, Ht'⟩
    iapply (send_step X Wt K c how i (oweSend c l) W _)
    isplitr; · iexact HI
    isplitl [Ho]; · iexact Ho
    isplitl [Hx]; · iexact Hx
    isplitl [Hb]; · iexact Hb
    isplitl [Hp]; · iexact Hp
    isplitl [Ht]; · iexact Ht
    isplitl [Hr]; · iexact Hr
    isplitl [Ht']; · iexact Ht'
    isplitl [HO]; · iexact HO
    iintro ⟨Ho, Hx, Hc, HO⟩
    iapply ih
    isplitr; · iexact HI
    isplitl [Ho]; · iexact Ho
    isplitl [Hx]; · iexact Hx
    isplitl [Hl]; · unfold sendIn; iexact Hl
    isplitl [HO]; · iexact HO
    iintro ⟨Ho, Hx, Hcs, HO⟩
    iapply Hk
    isplitl [Ho]; · iexact Ho
    isplitl [Hx]; · iexact Hx
    isplitl [Hc Hcs]
    · isplitl [Hc]; · iexact Hc
      iexact Hcs
    iexact HO

/-! ### The waits for the sends -/

def leftIn (i : Fin 15) : sProp 𝕄 := iprop(cred (tallyAt (sendCell c i) () N) ∗ atPos ER (sendCell c i) 0 ∅ 0)
def leftOut (i : Fin 15) : sProp 𝕄 := iprop(atPos ER (sendCell c i) 1 ∅ 0 ∗ sendPay c i)

theorem waits_wp {Q : PUnit.{1} → sProp 𝕄} (l : List (Fin 15)) :
    iprop(invs X Wt K ∗ owing c 0 ∗ bigSepL l (leftIn c) ∗ ((owing c 0 ∗ bigSepL l (leftOut c)) -∗ |={Set.univ}=> Q ⟨⟩))
      ⊢ runs c (waitsK c (words c l)) Q := by
  induction l generalizing Q with
  | nil =>
    unfold runs
    rw [words, List.map_nil, waitsK, Prog.pure_eq_ret, wp_ret]
    iintro ⟨-, HO, Hl, Hk⟩
    iapply Hk
    isplitl [HO]; · iexact HO
    iexact Hl
  | cons i l ih =>
    rw [show words c (i :: l) = (i, ⟨wd (ord c i.succ), chk1_ok _⟩) :: words c l from rfl, waitsK, bigSepL_cons', bigSepL_cons']
    simp only [Prog.lift, Prog.bind_op, Prog.bind_ret]
    iintro ⟨#HI, ⟨%W, HO⟩, ⟨Hi, Hl⟩, Hk⟩
    unfold leftIn
    icases Hi with ⟨Hc, Hat⟩
    iapply (wait_step X Wt K c (sem := (sendS i).sem) 0 N (by unfold N; rfl) (expect_send X Wt c i) (own_mem c (.inl i)) W)
    isplitr; · iexact HI
    isplitl [Hc]; · iexact Hc
    isplitl [HO]; · iexact HO
    isplitl [Hat]; · iexact Hat
    iintro ⟨HO, Hat, -, Hp⟩
    ihave Hp := (Entails.of_eq (rest_send X Wt c i)) $$ Hp
    iapply ih
    isplitr; · iexact HI
    isplitl [HO]; · iexact HO
    isplitl [Hl]; · unfold leftIn; iexact Hl
    iintro ⟨HO, Hls⟩
    iapply Hk
    isplitl [HO]; · iexact HO
    isplitl [Hat Hp]
    · unfold leftOut
      isplitl [Hat]; · iexact Hat
      iexact Hp
    iexact Hls

/-! ### The rounds -/

theorem slot_next (t : ℕ) : slot (t + 2) = slot t := Fin.ext (Nat.add_mod_right t 2)
theorem roundOf_slot (t : ℕ) (h : t < 16) : roundOf (slot t) (t / 2) = ⟨t, h⟩ := Fin.ext (by unfold roundOf slot; dsimp only; omega)

/-- The token of the copy of weight rows for round `n`. -/
def wTok (n : Fin 16) : sProp 𝕄 := dutyTok ER (wCell c (slot n.val)) (n.val / 2) 0
/-- What the wait for a block takes. -/
def blkIn (i : Fin 15) : sProp 𝕄 := iprop(cred (tallyAt (recvCell c (ord c i.succ)) () N) ∗ atPos ER (recvCell c (ord c i.succ)) 0 ∅ 0)
/-- What is left of it after its product. -/
def blkOut (i : Fin 15) : sProp 𝕄 := iprop((∃ f, slotPts c (ord c i.succ) f) ∗ atPos ER (recvCell c (ord c i.succ)) 1 ∅ 0)

/-- Between rounds `t` and `t + 1`: the rows for round `t + 1` are on their way, the other slot is free, the result holds `t + 1` products. -/
def between (t : ℕ) : sProp 𝕄 :=
  iprop((∃ f, wbPts c (slot t) f) ∗ atPos ER (wCell c (slot t)) ((t + 2) / 2) ∅ 0 ∗ reached ER (wCell c (slot t)) ((t + 2) / 2)
    ∗ cred (tallyAt (wCell c (slot (t + 1))) () NW) ∗ atPos ER (wCell c (slot (t + 1))) ((t + 1) / 2) ∅ 0 ∗ outPts c (outAt X Wt c t))

/-- The wait for the rows of a round, the wait for its block, and its product. -/
theorem turn_wp {Q : PUnit.{1} → sProp 𝕄} (t : ℕ) (i : Fin 15) (hi : i.val = t) (h16 : k0_chk16 (wd (ord c i.succ))) (h : k0_chk20 (wd (ord c i.succ))) (k : Pg F) :
    iprop(invs X Wt K ∗ owing c 0 ∗ cred (tallyAt (wCell c (slot (t + 1))) () NW) ∗ atPos ER (wCell c (slot (t + 1))) ((t + 1) / 2) ∅ 0
        ∗ outPts c (outAt X Wt c t) ∗ blkIn c i
        ∗ ((owing c 0 ∗ (∃ f, wbPts c (slot (t + 1)) f) ∗ atPos ER (wCell c (slot (t + 1))) ((t + 1) / 2 + 1) ∅ 0
            ∗ reached ER (wCell c (slot (t + 1))) ((t + 1) / 2 + 1) ∗ outPts c (outAt X Wt c (t + 1)) ∗ blkOut c i ∗ wrowPts Wt c (ord c i.succ)) -∗ runs c k Q))
      ⊢ runs c (waitWK (slot (t + 1)) (wd (ord c i.succ)) h16 <| accK (slot (t + 1)) (wd (ord c i.succ)) h k) Q := by
  have hlt : t + 1 < 16 := by have := i.isLt; omega
  have hne : ord c i.succ ≠ c := fun e => absurd (ord_inj c i.succ 0 (e.trans (ord_zero c).symm)) (Fin.succ_ne_zero i)
  have hr : (t + 1) / 2 < 8 := by omega
  have e1 : ord c (roundOf (slot (t + 1)) ((t + 1) / 2)) = ord c i.succ := by
    rw [roundOf_slot (t + 1) hlt]; exact congrArg (ord c) (Fin.ext (by rw [Fin.val_succ, hi]))
  have e2 : outAt X Wt c (t + 1) = accOf (blockX X (ord c i.succ) c) (rowsW Wt c (ord c i.succ)) (outAt X Wt c t) := by
    have e3 : (⟨(t + 1) % 16, Nat.mod_lt _ (by decide)⟩ : Fin 16) = i.succ := Fin.ext (by rw [Fin.val_succ, hi]; exact Nat.mod_eq_of_lt hlt)
    rw [outAt, e3]
  rw [e2]
  iintro ⟨#HI, HO, Hc, Hat, Hy, Hb, Hk⟩
  unfold blkIn
  icases Hb with ⟨Hbc, Hbat⟩
  iapply (waitW_step X Wt K c (slot (t + 1)) ((t + 1) / 2) hr _ h16 _)
  isplitr; · iexact HI
  isplitl [Hc]; · iexact Hc
  isplitl [HO]; · iexact HO
  isplitl [Hat]; · iexact Hat
  rw [e1]
  unfold rowsPay
  iintro ⟨HO, Hat, Hr, Hw, HW⟩
  iapply (acc_step X Wt K c (slot (t + 1)) (ord c i.succ) hne (rowsW Wt c (ord c i.succ)) (outAt X Wt c t) h k)
  isplitr; · iexact HI
  isplitl [Hbc]; · iexact Hbc
  isplitl [HO]; · iexact HO
  isplitl [Hbat]; · iexact Hbat
  isplitl [Hw]; · iexact Hw
  isplitl [Hy]; · iexact Hy
  iintro ⟨HO, Hbat, Hs, Hw, Hy⟩
  iapply Hk
  isplitl [HO]; · iexact HO
  isplitl [Hw]; · iexact Hw
  isplitl [Hat]; · iexact Hat
  isplitl [Hr]; · iexact Hr
  isplitl [Hy]; · iexact Hy
  isplitl [Hs Hbat]
  · unfold blkOut
    isplitl [Hs]; · iexact Hs
    iexact Hbat
  iexact HW

/-- What a round takes besides: the rows of the round after it and their copy's token, and its own block. -/
def midIn (t : Fin 14) : sProp 𝕄 := iprop(wrowPts Wt c (ord c t.succ.succ) ∗ wTok c t.succ.succ ∗ blkIn c t.castSucc)
def midOut (t : Fin 14) : sProp 𝕄 := iprop(wrowPts Wt c (ord c t.castSucc.succ) ∗ blkOut c t.castSucc)

theorem mid_wp {Q : PUnit.{1} → sProp 𝕄} (how : IsRow c ow) (t : Fin 14) (k : Pg F) :
    iprop(invs X Wt K ∗ ordPts c ow ∗ owing c 0 ∗ between X Wt c t.val ∗ midIn Wt c t
        ∗ ((ordPts c ow ∗ owing c 0 ∗ between X Wt c (t.val + 1) ∗ midOut Wt c t) -∗ runs c k Q))
      ⊢ runs c (midK t k) Q := by
  have hr : (t.val + 2) / 2 < 8 := by have := t.isLt; omega
  have e1 : ord c t.succ.succ = ord c (roundOf (slot t.val) ((t.val + 2) / 2)) := by
    rw [← slot_next t.val, roundOf_slot (t.val + 2) (by have := t.isLt; omega)]; rfl
  unfold midK midIn wTok
  rw [show t.succ.succ.val = t.val + 2 from rfl, slot_next]
  iintro ⟨#HI, Ho, HO, Hbt, ⟨HW, Htok, Hb⟩, Hk⟩
  unfold between
  icases Hbt with ⟨Hw, Hat, Hr, Hc, Hat', Hy⟩
  iapply (roundWord_step c how t.castSucc.succ _)
  isplitl [Ho]; · iexact Ho
  iintro Ho
  iapply (word_step c how t.succ.succ _)
  isplitl [Ho]; · iexact Ho
  iintro Ho
  iapply (start_step X Wt K c (slot t.val) ((t.val + 2) / 2) hr (ord c t.succ.succ) e1 _)
  isplitr; · iexact HI
  isplitl [HW]; · iexact HW
  isplitl [Hw]; · iexact Hw
  isplitl [Htok]; · iexact Htok
  isplitl [Hr]; · iexact Hr
  iintro Hc'
  iapply (turn_wp X Wt K c t.val t.castSucc rfl _ _ k)
  isplitr; · iexact HI
  isplitl [HO]; · iexact HO
  isplitl [Hc]; · iexact Hc
  isplitl [Hat']; · iexact Hat'
  isplitl [Hy]; · iexact Hy
  isplitl [Hb]; · iexact Hb
  rw [show (t.val + 1) / 2 + 1 = (t.val + 1 + 2) / 2 from by omega, slot_next]
  iintro ⟨HO, Hw, Hat', Hr, Hy, Hb, HW⟩
  iapply Hk
  isplitl [Ho]; · iexact Ho
  isplitl [HO]; · iexact HO
  isplitr [HW Hb]
  · isplitl [Hw]; · iexact Hw
    isplitl [Hat']; · iexact Hat'
    isplitl [Hr]; · iexact Hr
    isplitl [Hc']; · iexact Hc'
    isplitl [Hat]; · iexact Hat
    iexact Hy
  unfold midOut
  isplitl [HW]; · iexact HW
  iexact Hb

/-- The list's rounds are those from `n` on, each after the one before it. -/
def From : ℕ → List (Fin 14) → Prop
  | n, [] => n = 14
  | n, t :: ts => t.val = n ∧ From (n + 1) ts

theorem from_mids : From 0 mids := by unfold mids; simp [From]

theorem mids_wp {Q : PUnit.{1} → sProp 𝕄} (how : IsRow c ow) (k : Pg F) (l : List (Fin 14)) (n : ℕ) (hn : From n l) :
    iprop(invs X Wt K ∗ ordPts c ow ∗ owing c 0 ∗ between X Wt c n ∗ bigSepL l (midIn Wt c)
        ∗ ((ordPts c ow ∗ owing c 0 ∗ between X Wt c 14 ∗ bigSepL l (midOut Wt c)) -∗ runs c k Q))
      ⊢ runs c (midsK l k) Q := by
  induction l generalizing n with
  | nil =>
    have h14 : n = 14 := hn
    subst h14
    rw [midsK, bigSepL_nil, bigSepL_nil]
    iintro ⟨-, Ho, HO, Hbt, Hl, Hk⟩
    iapply Hk
    isplitl [Ho]; · iexact Ho
    isplitl [HO]; · iexact HO
    isplitl [Hbt]; · iexact Hbt
    iexact Hl
  | cons t l ih =>
    obtain ⟨rfl, hl⟩ := hn
    rw [midsK, bigSepL_cons', bigSepL_cons']
    iintro ⟨#HI, Ho, HO, Hbt, ⟨Ht, Hl⟩, Hk⟩
    iapply (mid_wp X Wt K c how t _)
    isplitr; · iexact HI
    isplitl [Ho]; · iexact Ho
    isplitl [HO]; · iexact HO
    isplitl [Hbt]; · iexact Hbt
    isplitl [Ht]; · iexact Ht
    iintro ⟨Ho, HO, Hbt, Ht⟩
    iapply (ih (t.val + 1) hl)
    isplitr; · iexact HI
    isplitl [Ho]; · iexact Ho
    isplitl [HO]; · iexact HO
    isplitl [Hbt]; · iexact Hbt
    isplitl [Hl]; · iexact Hl
    iintro ⟨Ho, HO, Hbt, Hl⟩
    iapply Hk
    isplitl [Ho]; · iexact Ho
    isplitl [HO]; · iexact HO
    isplitl [Hbt]; · iexact Hbt
    isplitl [Ht]; · iexact Ht
    iexact Hl

end Cert.KernelIdeal.Steps

end
-- ==== Proof.Whole.lean ====
/-
The whole body: from what a device holds at the kernel's entry to what it holds at its end.
-/
module

public import proofs.«01_k».proof.Proof.Lists

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → cc0_stg1_0.ty.Contents (Elt F)) (Wt : Dev nD → main_arg1.ty.Contents (Elt F))
variable (K : GSem nD τ sig → ℕ) (c : Dev nD) {ow : cc0_stg0_0.ty.Contents (Elt F)}

/-- What the two slots of the weight buffer start from. -/
def slotIn (s : Fin 2) : sProp 𝕄 := iprop((∃ f, wbPts c s f) ∗ atPos ER (wCell c s) 0 ∅ 0 ∗ reached ER (wCell c s) 0)
/-- And what they end at. -/
def slotOut (s : Fin 2) : sProp 𝕄 := iprop((∃ f, wbPts c s f) ∗ atPos ER (wCell c s) 8 ∅ 0)

/-- The weight rows and the token for the copy of round `n`'s rows. -/
def rowIn (n : Fin 16) : sProp 𝕄 := iprop(wrowPts Wt c (ord c n) ∗ wTok c n)

/-- What follows the sends: the own block, all sixteen rounds, and the waits for the sends. -/
theorem rest_wp {Q : PUnit.{1} → sProp 𝕄} (how : IsRow c ow) (l : List (Fin 15)) (y : cc0_stg2_0.ty.Contents (Elt F)) :
    iprop(invs X Wt K ∗ ordPts c ow ∗ xPts c (X c) ∗ outPts c y ∗ owing c 0 ∗ (∃ f, xbPts c c f) ∗ slotIn c 0 ∗ slotIn c 1
        ∗ rowIn Wt c 0 ∗ rowIn Wt c 1 ∗ bigSepL mids (midIn Wt c) ∗ blkIn c 14 ∗ bigSepL l (leftIn c)
        ∗ ((ordPts c ow ∗ xPts c (X c) ∗ outPts c (outAt X Wt c 15) ∗ owing c 0 ∗ (∃ f, xbPts c c f) ∗ slotOut c 0 ∗ slotOut c 1
            ∗ wrowPts Wt c (ord c 0) ∗ bigSepL mids (midOut Wt c) ∗ blkOut c 14 ∗ wrowPts Wt c (ord c 15) ∗ bigSepL l (leftOut c))
          -∗ |={Set.univ}=> Q ⟨⟩))
      ⊢ runs c (restK c (words c l)) Q := by
  unfold restK slotIn rowIn wTok
  iintro ⟨#HI, Ho, Hx, Hy, HO, Hb, ⟨Hw0, Hat0, Hr0⟩, ⟨Hw1, Hat1, Hr1⟩, ⟨HW0, Ht0⟩, ⟨HW1, Ht1⟩, Hm, Hbl, Hl, Hk⟩
  iapply (own_step X c _)
  isplitl [Hx]; · iexact Hx
  isplitl [Hb]; · iexact Hb
  iintro ⟨Hx, Hb⟩
  iapply (word_step c how 0 _)
  isplitl [Ho]; · iexact Ho
  iintro Ho
  iapply (start_step X Wt K c 0 0 (by decide) (ord c 0) rfl _)
  isplitr; · iexact HI
  isplitl [HW0]; · iexact HW0
  isplitl [Hw0]; · iexact Hw0
  isplitl [Ht0]; · iexact Ht0
  isplitl [Hr0]; · iexact Hr0
  iintro Hc0
  iapply (word_step c how 0 _)
  isplitl [Ho]; · iexact Ho
  iintro Ho
  iapply (word_step c how 1 _)
  isplitl [Ho]; · iexact Ho
  iintro Ho
  iapply (start_step X Wt K c 1 0 (by decide) (ord c 1) rfl _)
  isplitr; · iexact HI
  isplitl [HW1]; · iexact HW1
  isplitl [Hw1]; · iexact Hw1
  isplitl [Ht1]; · iexact Ht1
  isplitl [Hr1]; · iexact Hr1
  iintro Hc1
  iapply (waitW_step X Wt K c 0 0 (by decide) _ _ _)
  isplitr; · iexact HI
  isplitl [Hc0]; · iexact Hc0
  isplitl [HO]; · iexact HO
  isplitl [Hat0]; · iexact Hat0
  rw [show roundOf 0 0 = 0 from rfl]
  unfold rowsPay
  iintro ⟨HO, Hat0, Hr0, Hw0, HW0⟩
  iapply (first_step c (blockX X c c) (rowsW Wt c (ord c 0)) y _)
  isplitl [Hb]; · iexact Hb
  isplitl [Hw0]; · iexact Hw0
  isplitl [Hy]; · iexact Hy
  rw [show prodOf (blockX X c c) (rowsW Wt c (ord c 0)) = outAt X Wt c 0 from by rw [ord_zero]; rfl]
  iintro ⟨Hb, Hw0, Hy⟩
  iapply (mids_wp X Wt K c how _ mids 0 from_mids)
  isplitr; · iexact HI
  isplitl [Ho]; · iexact Ho
  isplitl [HO]; · iexact HO
  isplitl [Hw0 Hat0 Hr0 Hc1 Hat1 Hy]
  · unfold between
    isplitl [Hw0]; · iexact Hw0
    isplitl [Hat0]; · iexact Hat0
    isplitl [Hr0]; · iexact Hr0
    isplitl [Hc1]; · iexact Hc1
    isplitl [Hat1]; · iexact Hat1
    iexact Hy
  isplitl [Hm]; · iexact Hm
  unfold between
  iintro ⟨Ho, HO, ⟨Hw0, Hat0, -, Hc1, Hat1, Hy⟩, Hm⟩
  iapply (roundWord_step c how 15 _)
  isplitl [Ho]; · iexact Ho
  iintro Ho
  iapply (turn_wp X Wt K c 14 14 rfl _ _ _)
  isplitr; · iexact HI
  isplitl [HO]; · iexact HO
  isplitl [Hc1]; · iexact Hc1
  isplitl [Hat1]; · iexact Hat1
  isplitl [Hy]; · iexact Hy
  isplitl [Hbl]; · iexact Hbl
  iintro ⟨HO, Hw1, Hat1, -, Hy, Hbl, HW⟩
  iapply (waits_wp X Wt K c l)
  isplitr; · iexact HI
  isplitl [HO]; · iexact HO
  isplitl [Hl]; · iexact Hl
  iintro ⟨HO, Hl⟩
  iapply Hk
  isplitl [Ho]; · iexact Ho
  isplitl [Hx]; · iexact Hx
  isplitl [Hy]; · iexact Hy
  isplitl [HO]; · iexact HO
  isplitl [Hb]; · iexact Hb
  isplitl [Hw0 Hat0]
  · unfold slotOut
    isplitl [Hw0]; · iexact Hw0
    iexact Hat0
  isplitl [Hw1 Hat1]
  · unfold slotOut
    isplitl [Hw1]; · iexact Hw1
    iexact Hat1
  isplitl [HW0]; · iexact HW0
  isplitl [Hm]; · iexact Hm
  isplitl [Hbl]; · iexact Hbl
  isplitl [HW]; · iexact HW
  iexact Hl

/-! ### Families of positions as lists -/

theorem fin15_ups (Φ : Fin 15 → sProp 𝕄) : bigSep Finset.univ Φ = bigSepL ups Φ :=
  bigSep_univ_eq_bigSepL ups (by decide) (by decide) Φ
theorem fin15_downs (Φ : Fin 15 → sProp 𝕄) : bigSep Finset.univ Φ = bigSepL downs Φ :=
  bigSep_univ_eq_bigSepL downs (by decide) (by decide) Φ
/-- Positions `0 … 13`, then the last. -/
theorem fin15_last (Φ : Fin 15 → sProp 𝕄) : bigSep Finset.univ Φ = iprop(bigSepL mids (fun t => Φ t.castSucc) ∗ Φ 14) := by
  rw [bigSep_univ_eq_bigSepL (mids.map Fin.castSucc ++ [14]) (by decide) (by decide) Φ, bigSepL_append, bigSepL_map]; rfl
/-- Rounds `0` and `1`, then those that the rounds between start. -/
theorem fin16_starts (Φ : Fin 16 → sProp 𝕄) : bigSep Finset.univ Φ = iprop(Φ 0 ∗ Φ 1 ∗ bigSepL mids (fun t => Φ t.succ.succ)) := by
  rw [bigSep_univ_eq_bigSepL (0 :: 1 :: mids.map fun t => t.succ.succ) (by decide) (by decide) Φ, bigSepL_cons', bigSepL_cons', bigSepL_map]
/-- Round `0`, the rounds between, and the last. -/
theorem fin16_ends (Φ : Fin 16 → sProp 𝕄) : bigSep Finset.univ Φ = iprop(Φ 0 ∗ bigSepL mids (fun t => Φ t.castSucc.succ) ∗ Φ 15) := by
  rw [bigSep_univ_eq_bigSepL (0 :: (mids.map fun t => t.castSucc.succ) ++ [15]) (by decide) (by decide) Φ, List.cons_append, bigSepL_cons', bigSepL_append,
    bigSepL_map]; rfl
/-- Position `0`, then the fifteen after it. -/
theorem fin16_succ (Φ : Fin 16 → sProp 𝕄) : bigSep Finset.univ Φ = iprop(Φ 0 ∗ bigSep Finset.univ fun i : Fin 15 => Φ i.succ) := by
  rw [bigSep_univ_eq_bigSepL (0 :: ups.map Fin.succ) (by decide) (by decide) Φ, bigSepL_cons', bigSepL_map, fin15_ups fun i : Fin 15 => Φ i.succ]

/-- The row of device `c` as a bijection. -/
def ordE (c : Dev nD) : Fin 16 ≃ Dev nD :=
  Equiv.ofBijective (ord c) ((Fintype.bijective_iff_injective_and_card _).mpr ⟨fun i j h => ord_inj c i j h, rfl⟩)

/-- A family over the devices, in the row's order. -/
theorem devs_ord (Φ : Dev nD → sProp 𝕄) : bigSep Finset.univ Φ = bigSep Finset.univ fun i : Fin 16 => Φ (ord c i) :=
  bigSep_univ_equiv (ordE c) Φ
/-- A family over the other devices, in the row's order. -/
theorem others_ord (Φ : Dev nD → sProp 𝕄) : bigSep (Finset.univ.erase c) Φ = bigSep Finset.univ fun i : Fin 15 => Φ (ord c i.succ) := by
  rw [show Finset.univ.erase c = Finset.univ.map ⟨fun i : Fin 15 => ord c i.succ, fun i j h => Fin.succ_inj.mp (ord_inj c _ _ h)⟩ from ?_, bigSep_map]; rfl
  revert c; decide +kernel
/-- A family over the other devices, in the order of the signals. -/
theorem others_sig (Φ : Dev nD → sProp 𝕄) : bigSep (Finset.univ.erase c) Φ = bigSep Finset.univ fun i : Fin 15 => Φ (sigDev c i) := by
  rw [show Finset.univ.erase c = Finset.univ.map ⟨sigDev c, fun i j h => sigDev_inj c i j h⟩ from ?_, bigSep_map]; rfl
  revert c; decide +kernel

/-! ### The body -/

/-- The tokens of the duties that device `c` pays. -/
def myToks : sProp 𝕄 :=
  iprop((bigSep (Finset.univ.erase c) fun d => dutyTok ER (barCell d) 0 c)
    ∗ (bigSep Finset.univ fun i : Fin 15 => dutyTok ER (sendCell c i) 0 0)
    ∗ (bigSep (Finset.univ.erase c) fun d => dutyTok ER (recvCell d c) 0 c)
    ∗ bigSep Finset.univ fun n : Fin 16 => wTok c n)

/-- The credit for what the other devices pay to device `c`. -/
def myCreds : sProp 𝕄 :=
  iprop(cred (tallyAt (barCell c) () 15) ∗ bigSep (Finset.univ.erase c) fun j => cred (tallyAt (recvCell c j) () N))

/-- Every cell of device `c` at its first round. -/
def fresh : sProp 𝕄 :=
  iprop(atPos ER (barCell c) 0 ∅ 0
    ∗ (bigSep Finset.univ fun i : Fin 15 => iprop(atPos ER (sendCell c i) 0 ∅ 0 ∗ reached ER (sendCell c i) 0))
    ∗ (bigSep Finset.univ fun j : Dev nD => iprop(atPos ER (recvCell c j) 0 ∅ 0 ∗ reached ER (recvCell c j) 0))
    ∗ bigSep Finset.univ fun s : Fin 2 => iprop(atPos ER (wCell c s) 0 ∅ 0 ∗ reached ER (wCell c s) 0))

/-- Every cell of device `c` past its last round. -/
def spent : sProp 𝕄 :=
  iprop(atPos ER (barCell c) 1 ∅ 0
    ∗ (bigSep Finset.univ fun i : Fin 15 => atPos ER (sendCell c i) 1 ∅ 0)
    ∗ (atPos ER (recvCell c c) 0 ∅ 0 ∗ bigSep (Finset.univ.erase c) fun j => atPos ER (recvCell c j) 1 ∅ 0)
    ∗ bigSep Finset.univ fun s : Fin 2 => atPos ER (wCell c s) 8 ∅ 0)

/-- The scratch buffers by their parts, and the weights by their rows. -/
def parts : sProp 𝕄 :=
  iprop((bigSep Finset.univ fun p : Dev nD => iprop(∃ f, xbPts c p f)) ∗ (bigSep Finset.univ fun j : Dev nD => iprop(∃ f, slotPts c j f))
    ∗ (bigSep Finset.univ fun s : Fin 2 => iprop(∃ f, wbPts c s f)) ∗ bigSep Finset.univ fun p : Dev nD => wrowPts Wt c p)

/-! ### Families joined and cut -/

theorem two_slots (Φ : Fin 2 → sProp 𝕄) : bigSep Finset.univ Φ = iprop(Φ 0 ∗ Φ 1) := BI.bigSep_fin_two Φ
theorem join3 {I : Type} (s : Finset I) (A B C : I → sProp 𝕄) :
    iprop(bigSep s A ∗ bigSep s B ∗ bigSep s C) = bigSep s fun i => iprop(A i ∗ B i ∗ C i) := by
  rw [bigSep_sep', bigSep_sep']
theorem join5 {I : Type} (s : Finset I) (A B C D E : I → sProp 𝕄) :
    iprop(bigSep s A ∗ bigSep s B ∗ bigSep s C ∗ bigSep s D ∗ bigSep s E) = bigSep s fun i => iprop(A i ∗ B i ∗ C i ∗ D i ∗ E i) := by
  rw [bigSep_sep', bigSep_sep', bigSep_sep', bigSep_sep']
theorem listPair {I : Type} [DecidableEq I] (l : List I) (hl : l.Nodup) (A B : I → sProp 𝕄) :
    bigSepL l (fun i => iprop(A i ∗ B i)) = iprop(bigSepL l A ∗ bigSepL l B) := by
  rw [← bigSep_eq_bigSepL l hl, ← bigSep_eq_bigSepL l hl, ← bigSep_eq_bigSepL l hl, bigSep_sep']

theorem sig_in :
    iprop((bigSep (Finset.univ.erase c) fun d => dutyTok ER (barCell d) 0 c) ∗ (bigSep (Finset.univ.erase c) fun j => iprop(∃ f, slotPts c j f))
        ∗ bigSep (Finset.univ.erase c) fun j => reached ER (recvCell c j) 0)
      ⊢ (bigSepL ups (sigIn c) : sProp 𝕄) := by
  rw [join3, others_sig c, fin15_ups]
  exact .rfl

theorem send_in :
    iprop((bigSep Finset.univ fun i : Fin 15 => iprop(∃ f, xbPts c (ord c i.succ) f)) ∗ (bigSep (Finset.univ.erase c) fun d => barPay c d)
        ∗ (bigSep Finset.univ fun i : Fin 15 => dutyTok ER (sendCell c i) 0 0) ∗ (bigSep Finset.univ fun i : Fin 15 => reached ER (sendCell c i) 0)
        ∗ bigSep (Finset.univ.erase c) fun d => dutyTok ER (recvCell d c) 0 c)
      ⊢ (bigSepL downs (sendIn c) : sProp 𝕄) := by
  rw [others_ord c (fun d => barPay c d), others_ord c (fun d => dutyTok ER (recvCell d c) 0 c), join5, fin15_downs]
  exact .rfl

theorem left_in :
    iprop(bigSepL downs (fun i => cred (tallyAt (sendCell c i) () N)) ∗ bigSep Finset.univ fun i : Fin 15 => atPos ER (sendCell c i) 0 ∅ 0)
      ⊢ (bigSepL downs (leftIn c) : sProp 𝕄) := by
  rw [fin15_downs, ← listPair downs (by decide)]
  exact .rfl

theorem left_out :
    (bigSepL downs (leftOut c) : sProp 𝕄)
      ⊢ iprop((bigSep Finset.univ fun i : Fin 15 => atPos ER (sendCell c i) 1 ∅ 0) ∗ bigSep Finset.univ fun i : Fin 15 => iprop(∃ f, xbPts c (ord c i.succ) f)) := by
  rw [fin15_downs, fin15_downs, ← listPair downs (by decide)]
  exact .rfl

theorem blk_in :
    iprop((bigSep (Finset.univ.erase c) fun j => cred (tallyAt (recvCell c j) () N)) ∗ bigSep (Finset.univ.erase c) fun j => atPos ER (recvCell c j) 0 ∅ 0)
      ⊢ (bigSep Finset.univ (blkIn c) : sProp 𝕄) := by
  rw [← bigSep_sep', others_ord c]
  exact .rfl

theorem blk_out :
    (bigSep Finset.univ (blkOut c) : sProp 𝕄)
      ⊢ iprop((bigSep (Finset.univ.erase c) fun j => iprop(∃ f, slotPts c j f)) ∗ bigSep (Finset.univ.erase c) fun j => atPos ER (recvCell c j) 1 ∅ 0) := by
  rw [← bigSep_sep', others_ord c]
  exact .rfl

/-- What the rounds take, from the weight rows, the tokens and the blocks' credits. -/
theorem mid_in :
    iprop((bigSep Finset.univ fun p : Dev nD => wrowPts Wt c p) ∗ (bigSep Finset.univ fun n : Fin 16 => wTok c n) ∗ bigSep Finset.univ (blkIn c))
      ⊢ (iprop(rowIn Wt c 0 ∗ rowIn Wt c 1 ∗ bigSepL mids (midIn Wt c) ∗ blkIn c 14) : sProp 𝕄) := by
  rw [devs_ord c, fin16_starts, fin16_starts, fin15_last,
    show bigSepL mids (midIn Wt c) = (iprop(bigSepL mids (fun t => wrowPts Wt c (ord c t.succ.succ)) ∗ bigSepL mids (fun t => wTok c t.succ.succ)
      ∗ bigSepL mids (fun t => blkIn c t.castSucc)) : sProp 𝕄) from by
        rw [← listPair mids (by decide), ← listPair mids (by decide)]; rfl]
  unfold rowIn
  iintro ⟨⟨H0, H1, H⟩, ⟨T0, T1, T⟩, B, B'⟩
  isplitl [H0 T0]
  · isplitl [H0]; · iexact H0
    iexact T0
  isplitl [H1 T1]
  · isplitl [H1]; · iexact H1
    iexact T1
  isplitr [B']
  · isplitl [H]; · iexact H
    isplitl [T]; · iexact T
    iexact B
  iexact B'

/-- And what they leave. -/
theorem mid_out :
    (iprop(wrowPts Wt c (ord c 0) ∗ bigSepL mids (midOut Wt c) ∗ blkOut c 14 ∗ wrowPts Wt c (ord c 15)) : sProp 𝕄)
      ⊢ iprop((bigSep Finset.univ fun p : Dev nD => wrowPts Wt c p) ∗ bigSep Finset.univ (blkOut c)) := by
  rw [devs_ord c, fin16_ends, fin15_last,
    show bigSepL mids (midOut Wt c) = (iprop(bigSepL mids (fun t => wrowPts Wt c (ord c t.castSucc.succ)) ∗ bigSepL mids (fun t => blkOut c t.castSucc)) : sProp 𝕄) from by
        rw [← listPair mids (by decide)]; rfl]
  iintro ⟨H0, ⟨H, B⟩, B', H15⟩
  isplitl [H0 H H15]
  · isplitl [H0]; · iexact H0
    isplitl [H]; · iexact H
    iexact H15
  isplitl [B]; · iexact B
  iexact B'

/-- The send buffer's parts: the own block's, and one per send. -/
theorem xb_parts :
    (bigSep Finset.univ fun p : Dev nD => iprop(∃ f, xbPts c p f) : sProp 𝕄)
      = iprop((∃ f, xbPts c c f) ∗ bigSep Finset.univ fun i : Fin 15 => iprop(∃ f, xbPts c (ord c i.succ) f)) := by
  rw [devs_ord c, fin16_succ, ord_zero]

/-! ### The run of the body -/

/-- The body runs from its buffers by their parts, with every cell at its first round, to the same with every cell past its last
    round and the sixteen products summed in the result. -/
theorem prog_wp {Q : PUnit.{1} → sProp 𝕄} (how : IsRow c ow) (y : cc0_stg2_0.ty.Contents (Elt F)) (W : Waits sig Unit) :
    iprop(invs X Wt K ∗ levAts L lv ∗ ordPts c ow ∗ xPts c (X c) ∗ outPts c y ∗ parts Wt c ∗ myToks c ∗ myCreds c ∗ fresh c
        ∗ owes (c : Thread nD τ) (O₀ c) W
        ∗ ((ordPts c ow ∗ xPts c (X c) ∗ outPts c (outAt X Wt c 15) ∗ parts Wt c ∗ owing c 0 ∗ spent c) -∗ |={Set.univ}=> Q ⟨⟩))
      ⊢ runs c (prog (F := F)) Q := by
  unfold prog runs
  simp only [Prog.lift, Prog.bind_op, Prog.bind_ret]
  iintro ⟨#HI, #HL, Ho, Hx, Hy, Hp, Ht, Hcr, Hf, HO, Hk⟩
  rw [wp_deviceId]
  unfold parts myToks myCreds fresh O₀
  icases Hp with ⟨Hxb, Hsl, Hwb, HW⟩
  icases Ht with ⟨TB, TS, TR, TW⟩
  icases Hcr with ⟨CB, CR⟩
  icases Hf with ⟨AB, AS, AR, AW⟩
  ihave AS := (Entails.of_eq (bigSep_sep' _ _ _)) $$ AS
  icases AS with ⟨AS, RS⟩
  ihave AR := (Entails.of_eq (bigSep_univ_at _ c)) $$ AR
  icases AR with ⟨⟨AR0, -⟩, AR⟩
  ihave AR := (Entails.of_eq (bigSep_sep' _ _ _)) $$ AR
  icases AR with ⟨AR, RR⟩
  ihave Hsl := (Entails.of_eq (bigSep_univ_at _ c)) $$ Hsl
  icases Hsl with ⟨Hs0, Hsl⟩
  ihave Hsig := (sig_in c) $$ [TB Hsl RR]
  · isplitl [TB]; · iexact TB
    isplitl [Hsl]; · iexact Hsl
    iexact RR
  iapply (signals_wp X Wt K c (oweSend c downs) W _ ups)
  isplitr; · iexact HI
  isplitl [Hsig]; · iexact Hsig
  isplitl [HO]; · iexact HO
  iintro HO
  iapply (barrier_step X Wt K c downs W _)
  isplitr; · iexact HI
  isplitr; · iexact HL
  isplitl [CB]; · iexact CB
  isplitl [HO]; · iexact HO
  isplitl [AB]; · iexact AB
  iintro ⟨⟨%W', HO⟩, AB, HP⟩
  ihave Hxb := (Entails.of_eq (xb_parts c)) $$ Hxb
  icases Hxb with ⟨Hb, Hxb⟩
  ihave Hse := (send_in c) $$ [Hxb HP TS RS TR]
  · isplitl [Hxb]; · iexact Hxb
    isplitl [HP]; · iexact HP
    isplitl [TS]; · iexact TS
    isplitl [RS]; · iexact RS
    iexact TR
  iapply (sends_wp X Wt K c how W' downs _)
  isplitr; · iexact HI
  isplitl [Ho]; · iexact Ho
  isplitl [Hx]; · iexact Hx
  isplitl [Hse]; · iexact Hse
  isplitl [HO]; · iexact HO
  iintro ⟨Ho, Hx, CS, HO⟩
  ihave Hle := (left_in c) $$ [CS AS]
  · isplitl [CS]; · iexact CS
    iexact AS
  ihave Hbl := (blk_in c) $$ [CR AR]
  · isplitl [CR]; · iexact CR
    iexact AR
  ihave Hm := (mid_in Wt c) $$ [HW TW Hbl]
  · isplitl [HW]; · iexact HW
    isplitl [TW]; · iexact TW
    iexact Hbl
  icases Hm with ⟨Hr0, Hr1, Hm, Hbl⟩
  ihave Hwb := (Entails.of_eq (two_slots _)) $$ Hwb
  icases Hwb with ⟨Hw0, Hw1⟩
  ihave AW := (Entails.of_eq (two_slots _)) $$ AW
  icases AW with ⟨AW0, AW1⟩
  iapply (rest_wp X Wt K c how downs y)
  isplitr; · iexact HI
  isplitl [Ho]; · iexact Ho
  isplitl [Hx]; · iexact Hx
  isplitl [Hy]; · iexact Hy
  isplitl [HO]; · iexists _; iexact HO
  isplitl [Hb]; · iexact Hb
  isplitl [Hw0 AW0]
  · unfold slotIn
    isplitl [Hw0]; · iexact Hw0
    iexact AW0
  isplitl [Hw1 AW1]
  · unfold slotIn
    isplitl [Hw1]; · iexact Hw1
    iexact AW1
  isplitl [Hr0]; · iexact Hr0
  isplitl [Hr1]; · iexact Hr1
  isplitl [Hm]; · iexact Hm
  isplitl [Hbl]; · iexact Hbl
  isplitl [Hle]; · iexact Hle
  iintro ⟨Ho, Hx, Hy, HO, Hb, H0, H1, HW, Hm, Hbl, HW', Hle⟩
  ihave Hm := (mid_out Wt c) $$ [HW Hm Hbl HW']
  · isplitl [HW]; · iexact HW
    isplitl [Hm]; · iexact Hm
    isplitl [Hbl]; · iexact Hbl
    iexact HW'
  icases Hm with ⟨HW, Hbl⟩
  ihave Hbl := (blk_out c) $$ Hbl
  icases Hbl with ⟨Hsl, AR⟩
  ihave Hle := (left_out c) $$ Hle
  icases Hle with ⟨AS, Hxb⟩
  unfold slotOut spent
  icases H0 with ⟨Hw0, AW0⟩
  icases H1 with ⟨Hw1, AW1⟩
  iapply Hk
  isplitl [Ho]; · iexact Ho
  isplitl [Hx]; · iexact Hx
  isplitl [Hy]; · iexact Hy
  isplitl [Hb Hxb Hs0 Hsl Hw0 Hw1 HW]
  · isplitl [Hb Hxb]
    · iapply (Entails.of_eq (xb_parts c).symm)
      isplitl [Hb]; · iexact Hb
      iexact Hxb
    isplitl [Hs0 Hsl]
    · iapply (Entails.of_eq (bigSep_univ_at (fun j : Dev nD => (iprop(∃ f, slotPts c j f) : sProp 𝕄)) c).symm)
      isplitl [Hs0]; · iexact Hs0
      iexact Hsl
    isplitl [Hw0 Hw1]
    · iapply (Entails.of_eq (two_slots (fun s : Fin 2 => (iprop(∃ f, wbPts c s f) : sProp 𝕄))).symm)
      isplitl [Hw0]; · iexact Hw0
      iexact Hw1
    iexact HW
  isplitl [HO]; · iexact HO
  isplitl [AB]; · iexact AB
  isplitl [AS]; · iexact AS
  isplitl [AR0 AR]
  · isplitl [AR0]; · iexact AR0
    iexact AR
  iapply (Entails.of_eq (two_slots (fun s : Fin 2 => (atPos ER (wCell c s) 8 ∅ 0 : sProp 𝕄))).symm)
  isplitl [AW0]; · iexact AW0
  iexact AW1

end Cert.KernelIdeal.Steps

end
-- ==== Proof.Buffers.lean ====
/-
The body's buffers cut into the parts that its protocol hands around, and joined back. The send buffer falls into one row
block per device, the receive buffer into one slot per device, the weight buffer into two slots, the weights into one block
of rows per device; what a family leaves of its buffer is kept beside it.
-/
module

public import proofs.«01_k».proof.Proof.Whole
public import Idealize.ShloMosaic.Lib.Ring.FamCut
public import Idealize.ShloMosaic.Lib.ViewIndex

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wt : Dev nD → main_arg1.ty.Contents (Elt F)) (c : Dev nD)

/-! ### The parts are apart -/

theorem off4_wd : ∀ p : Dev nD, k0_off4 (wd p) = ![p.val * 512, 0] := by decide +kernel

theorem apart {a b : Dev nD} (h : a ≠ b) : a.val * 512 + 512 ≤ b.val * 512 ∨ b.val * 512 + 512 ≤ a.val * 512 := by
  have : a.val ≠ b.val := fun e => h (Fin.ext e)
  omega

theorem xb_apart (a b : Dev nD) (h : a ≠ b) :
    Disjoint (srcM (wd a) (chk1_ok a)).view.set (srcM (wd b) (chk1_ok b)).view.set :=
  View.disjoint_slice (v := xbM.view) (Rect.unit_disjoint 0 (by rw [off4_wd, off4_wd]; exact apart h))
theorem slot_set (j : Dev nD) : (dstM j).view.set
    = (commM.view.slice (Rect.unit (s := S16x512x512) (k0_off3 j) S1x512x512.size (k0_off3_inb j))).set := View.set_reshape _ _
theorem wb_set (s : Fin 2) : (wslotM s).view.set = (wbufM.view.slice (wslotR s)).set := View.set_reshape _ _
theorem slot_apart (a b : Dev nD) (h : a ≠ b) : Disjoint (dstM a).view.set (dstM b).view.set := by
  have key := View.disjoint_slice (v := commM.view) (Rect.unit_disjoint (inb := k0_off3_inb a) (inb' := k0_off3_inb b) 0
    (by rw [off3_dev, off3_dev, off69_wd, off69_wd]
        have : a.val ≠ b.val := fun e => h (Fin.ext e)
        show a.val + 1 ≤ b.val ∨ b.val + 1 ≤ a.val
        omega))
  rw [slot_set, slot_set]
  exact key
theorem wb_apart (a b : Fin 2) (h : a ≠ b) : Disjoint (wslotM a).view.set (wslotM b).view.set := by
  have key := View.disjoint_slice (v := wbufM.view) (Rect.unit_disjoint (inb := wslot_inb a) (inb' := wslot_inb b) 0
    (by have : a.val ≠ b.val := fun e => h (Fin.ext e)
        show a.val + 1 ≤ b.val ∨ b.val + 1 ≤ a.val
        omega))
  rw [wb_set, wb_set]
  exact key
theorem wrow_apart (a b : Dev nD) (h : a ≠ b) :
    Disjoint (wrowM (wd a) (chk16_ok a)).view.set (wrowM (wd b) (chk16_ok b)).view.set :=
  View.disjoint_slice (v := wM.view) (Rect.unit_disjoint 0 (by rw [off62_wd, off62_wd]; exact apart h))

/-! ### The families, as sets of elements of their buffers -/

abbrev xbI (p : Dev nD) : Finset (Idx ((c : Thread nD τ).loc cc0_scratch0)) := (srcM (wd p) (chk1_ok p)).view.set
abbrev slotI (j : Dev nD) : Finset (Idx ((c : Thread nD τ).loc cc0_scratch1)) := (dstM j).view.set
abbrev wbI (s : Fin 2) : Finset (Idx ((c : Thread nD τ).loc cc0_scratch2)) := (wslotM s).view.set
abbrev wrowI (p : Dev nD) : Finset (Idx ((c : Thread nD τ).loc main_arg1)) := (wrowM (wd p) (chk16_ok p)).view.set

/-- A buffer whole, at some contents. -/
abbrev held0 : sProp 𝕄 := iprop(∃ f, (c : Thread nD τ).loc cc0_scratch0 ↦{fullShare} f)
abbrev held1 : sProp 𝕄 := iprop(∃ f, (c : Thread nD τ).loc cc0_scratch1 ↦{fullShare} f)
abbrev held2 : sProp 𝕄 := iprop(∃ f, (c : Thread nD τ).loc cc0_scratch2 ↦{fullShare} f)
/-- The weights whole. -/
abbrev heldW : sProp 𝕄 := (c : Thread nD τ).loc main_arg1 ↦{fullShare} Wt c

/-- What the families leave of their buffers. -/
def beside : sProp 𝕄 :=
  iprop((∃ f, (c : Thread nD τ).loc cc0_scratch0 ↦[Ring.restOf (xbI c)]{fullShare} f)
    ∗ (∃ f, (c : Thread nD τ).loc cc0_scratch1 ↦[Ring.restOf (slotI c)]{fullShare} f)
    ∗ (∃ f, (c : Thread nD τ).loc cc0_scratch2 ↦[Ring.restOf (wbI c)]{fullShare} f)
    ∗ (c : Thread nD τ).loc main_arg1 ↦[Ring.restOf (wrowI c)]{fullShare} Wt c)

/-- The buffers by their parts. -/
theorem cut : iprop(held0 c ∗ held1 c ∗ held2 c ∗ heldW Wt c) ⊢ (iprop(parts Wt c ∗ beside Wt c) : sProp 𝕄) := by
  unfold parts beside
  iintro ⟨H0, H1, H2, HW⟩
  ihave H0 := (Ring.fam_split_ex (Ix := Unit) (Val := Elt F) (Name := ℕ) (U := UU) (Lvl := ℕ) (xbI c) xb_apart) $$ H0
  icases H0 with ⟨H0, R0⟩
  ihave H1 := (Ring.fam_split_ex (Ix := Unit) (Val := Elt F) (Name := ℕ) (U := UU) (Lvl := ℕ) (slotI c) slot_apart) $$ H1
  icases H1 with ⟨H1, R1⟩
  ihave H2 := (Ring.fam_split_ex (Ix := Unit) (Val := Elt F) (Name := ℕ) (U := UU) (Lvl := ℕ) (wbI c) wb_apart) $$ H2
  icases H2 with ⟨H2, R2⟩
  ihave HW := (Ring.fam_split (Ix := Unit) (Val := Elt F) (Name := ℕ) (U := UU) (Lvl := ℕ) (wrowI c) wrow_apart (Wt c)) $$ HW
  icases HW with ⟨HW, RW⟩
  isplitl [H0 H1 H2 HW]
  · isplitl [H0]; · iexact H0
    isplitl [H1]; · iexact H1
    isplitl [H2]; · iexact H2
    iexact HW
  isplitl [R0]; · iexact R0
  isplitl [R1]; · iexact R1
  isplitl [R2]; · iexact R2
  iexact RW

theorem joinW :
    (iprop((bigSep Finset.univ fun p : Dev nD => wrowPts Wt c p) ∗ (c : Thread nD τ).loc main_arg1 ↦[Ring.restOf (wrowI c)]{fullShare} Wt c) : sProp 𝕄)
      ⊢ heldW Wt c := by
  have h := (pointsTo_biUnion (Ix := Unit) (Val := Elt F) (Name := ℕ) (U := UU) (Lvl := ℕ) (ℓ := (c : Thread nD τ).loc main_arg1) (q := fullShare) (f := Wt c)
    Finset.univ (wrowI c) (fun b _ b' _ h => wrow_apart b b' h))
  rw [show (bigSep Finset.univ fun p : Dev nD => wrowPts Wt c p : sProp 𝕄) = _ from h.symm]
  exact (pointsTo_split_subset (Finset.subset_univ _)).2

/-- The parts joined back. -/
theorem join : (iprop(parts Wt c ∗ beside Wt c) : sProp 𝕄) ⊢ iprop(held0 c ∗ held1 c ∗ held2 c ∗ heldW Wt c) := by
  unfold parts beside
  iintro ⟨⟨H0, H1, H2, HW⟩, ⟨%f0, R0⟩, ⟨%f1, R1⟩, ⟨%f2, R2⟩, RW⟩
  ihave H0 := (Ring.fam_join (Ix := Unit) (Val := Elt F) (Name := ℕ) (U := UU) (Lvl := ℕ) (xbI c) xb_apart f0) $$ [H0 R0]
  · isplitl [H0]; · iexact H0
    iexists f0; iexact R0
  ihave H1 := (Ring.fam_join (Ix := Unit) (Val := Elt F) (Name := ℕ) (U := UU) (Lvl := ℕ) (slotI c) slot_apart f1) $$ [H1 R1]
  · isplitl [H1]; · iexact H1
    iexists f1; iexact R1
  ihave H2 := (Ring.fam_join (Ix := Unit) (Val := Elt F) (Name := ℕ) (U := UU) (Lvl := ℕ) (wbI c) wb_apart f2) $$ [H2 R2]
  · isplitl [H2]; · iexact H2
    iexists f2; iexact R2
  ihave HW := (joinW Wt c) $$ [HW RW]
  · isplitl [HW]; · iexact HW
    iexact RW
  isplitl [H0]; · iexact H0
  isplitl [H1]; · iexact H1
  isplitl [H2]; · iexact H2
  iexact HW

end Cert.KernelIdeal.Steps

end
-- ==== Proof.Cells.lean ====
/-
A device's cells opened before its body runs and closed after: each is opened at its first round with its counter at zero,
and closed past its last round with its counter at zero again.
-/
module

public import proofs.«01_k».proof.Proof.Buffers

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → cc0_stg1_0.ty.Contents (Elt F)) (Wt : Dev nD → main_arg1.ty.Contents (Elt F))
variable (K : GSem nD τ sig → ℕ) (c : Dev nD)

/-- Cell `k` of device `c`. -/
abbrev cellAt (k : OwnK) : GSem nD τ sig := ((c : Thread nD τ), osem k)

/-- A family over a device's cells, by their kinds. -/
theorem own_split (Φ : OwnK → sProp 𝕄) :
    bigSep Finset.univ Φ = iprop((bigSep Finset.univ fun i : Fin 15 => Φ (.inl i)) ∗ (bigSep Finset.univ fun j : Dev nD => Φ (.inr (.inl j)))
      ∗ bigSep Finset.univ fun s : Fin 2 => Φ (.inr (.inr s))) := by
  rw [bigSep_univ_sum, bigSep_univ_sum]; rfl

/-- The cells are opened with their counters at zero. -/
theorem cells_opened :
    iprop(invs X Wt K ∗ atPos ER (barCell c) 0 ∅ 0 ∗ (bigSep Finset.univ fun k : OwnK => openTok ER (cellAt c k)) ∗ Pipeline.ownSems0 osem c)
      ⊢ (|={Set.univ}=> fresh c : sProp 𝕄) := by
  unfold Pipeline.ownSems0
  iintro ⟨#HI, HB, HT, Hs⟩
  ihave HT := (bigSep_with_persistent (R := invs X Wt K) (S := Finset.univ) (Φ := fun k : OwnK => (openTok ER (cellAt c k) : sProp 𝕄))
    (Ψ := fun k : OwnK => (iprop(cellInv ER (Rd X Wt) (K (cellAt c k)) (cellAt c k) ∗ openTok ER (cellAt c k)) : sProp 𝕄)) fun k _ => by
      iintro ⟨HI, HT⟩
      isplitl [HI]; · iapply (inv_at X Wt K (own_mem c k)); iexact HI
      iexact HT) $$ [HT]
  · isplitr; · iexact HI
    iexact HT
  imod (cells_open ER (Rd X Wt) Finset.univ (cellAt c) (fun k => K (cellAt c k)) (fun _ _ => Set.mem_univ _)) $$ [HT Hs] with H
  · isplitl [HT]; · iexact HT
    iexact Hs
  imodintro
  ihave H := (Entails.of_eq (own_split _)) $$ H
  unfold fresh
  isplitl [HB]; · iexact HB
  iexact H

/-- The round past a cell's last. -/
def lastOf : OwnK → ℕ
  | .inl _ => 1
  | .inr (.inl j) => if j = c then 0 else 1
  | .inr (.inr _) => 8

theorem past (k : OwnK) : ∀ r, lastOf c k ≤ r → (Rd X Wt).duties (cellAt c k) r = ∅ := by
  refine duties_past X Wt c (osem k) (lastOf c k) ?_ ?_
  · rcases k with i | j | s <;> simp only [osem, kind_send, kind_recv, kind_w] <;> rintro ⟨s', h⟩ <;> cases h
    exact Nat.le_refl 8
  · rcases k with i | j | s <;> simp only [osem, kind_send, kind_recv, kind_w] <;> intro h
    · exact .inl (Nat.le_refl 1)
    · by_cases hj : j = c
      · exact .inr (by rw [hj])
      · exact .inl (Nat.le_of_eq (if_neg hj).symm)
    · exact absurd rfl (h s)

theorem past_bar : ∀ r, 1 ≤ r → (Rd X Wt).duties (barCell c) r = ∅ :=
  duties_past X Wt c (.reg barS.sem) 1 (fun ⟨s, h⟩ => by rw [kind_bar] at h; cases h) fun _ => .inl (Nat.le_refl 1)

theorem recv_rounds (Φ : Dev nD → ℕ → sProp 𝕄) :
    iprop(Φ c 0 ∗ bigSep (Finset.univ.erase c) fun j => Φ j 1) = bigSep Finset.univ fun j : Dev nD => Φ j (if j = c then 0 else 1) := by
  rw [bigSep_univ_at (fun j : Dev nD => Φ j (if j = c then 0 else 1)) c, if_pos rfl,
    bigSep_congr (s := Finset.univ.erase c) (Φ := fun j => Φ j (if j = c then 0 else 1)) (Ψ := fun j => Φ j 1)
      fun j hj => by rw [if_neg (Finset.ne_of_mem_erase hj)]]

/-- The cells are closed with their counters at zero. -/
theorem cells_closed :
    iprop(invs X Wt K ∗ spent c) ⊢ (|={Set.univ}=> iprop(semVal (barCell c) 0 ∗ Pipeline.ownSems0 osem c) : sProp 𝕄) := by
  unfold spent Pipeline.ownSems0
  iintro ⟨#HI, HB, HS, HR, HW⟩
  imod (cell_close ER (Rd X Wt) (κ := K (barCell c)) (g := barCell c) (Set.mem_univ _) (fun h => h) (R := 1) (past_bar X Wt c)) $$ [HB] with HB
  · isplitr; · iapply (inv_bar X Wt K c); iexact HI
    iexact HB
  ihave HR := (Entails.of_eq (recv_rounds c fun j r => (atPos ER (recvCell c j) r ∅ 0 : sProp 𝕄))) $$ HR
  ihave H := (Entails.of_eq (own_split fun k => (atPos ER (cellAt c k) (lastOf c k) ∅ 0 : sProp 𝕄)).symm) $$ [HS HR HW]
  · isplitl [HS]; · iexact HS
    isplitl [HR]; · iexact HR
    iexact HW
  ihave H := (bigSep_with_persistent (R := invs X Wt K) (S := Finset.univ) (Φ := fun k : OwnK => (atPos ER (cellAt c k) (lastOf c k) ∅ 0 : sProp 𝕄))
    (Ψ := fun k : OwnK => (iprop(cellInv ER (Rd X Wt) (K (cellAt c k)) (cellAt c k) ∗ atPos ER (cellAt c k) (lastOf c k) ∅ 0) : sProp 𝕄)) fun k _ => by
      iintro ⟨HI, HT⟩
      isplitl [HI]; · iapply (inv_at X Wt K (own_mem c k)); iexact HI
      iexact HT) $$ [H]
  · isplitr; · iexact HI
    iexact H
  imod (cells_close ER (Rd X Wt) Finset.univ (cellAt c) (fun k => K (cellAt c k)) (fun _ _ => Set.mem_univ _) (fun _ _ h => h) (lastOf c)
    (fun k _ => past X Wt c k)) $$ H with H
  imodintro
  isplitl [HB]; · iexact HB
  iexact H

end Cert.KernelIdeal.Steps

end
-- ==== Proof.Body.lean ====
/-
The kernel's region: what the body is called with and what it leaves, from the buffers and the protocol's resources that the
region enters with.
-/
module

public import proofs.«01_k».proof.Proof.Cells
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ### What the body finds -/

/-- Device `c`'s order row, its columns of the input, and its copy of the weights, as the body finds them. -/
def ordOf (c : Dev nD) : cc0_stg0_0.ty.Contents (Elt F) := (win0_0.blk (0 : Fin 1)).view.read (Elt F) (V1 m c main_v12)
def xOf (c : Dev nD) : cc0_stg1_0.ty.Contents (Elt F) := (win0_1.blk (0 : Fin 1)).view.read (Elt F) (V1 m c main_arg0)
def wOf (c : Dev nD) : main_arg1.ty.Contents (Elt F) := V1 m c main_arg1
/-- What it leaves in the result. -/
def resOf (c : Dev nD) : cc0_stg2_0.ty.Contents (Elt F) := outAt (xOf m) (wOf m) c 15

/-! ### The region's resources -/

/-- Entering: the protocol's, with every cell open. -/
def entered (c : Dev nD) : sProp 𝕄 :=
  iprop((∃ K, invs (xOf m) (wOf m) K) ∗ levAts L lv ∗ myToks c ∗ myCreds c ∗ fresh c)
/-- The scratch buffers and the weights. -/
def scratch (c : Dev nD) : sProp 𝕄 := iprop(held0 c ∗ held1 c ∗ held2 c ∗ heldW (wOf m) c)

def dats (_ : Fin 1) (c : Dev nD) : Dat τ (Elt F) Unit ℕ UU ℕ cfg0 c where
  A w := V1 m c (Proc.devRef .tc (Pipeline.arrRef spec0 w))
  after w _ := match w with
    | ⟨0, _⟩ => ordOf m c
    | ⟨1, _⟩ => xOf m c
    | ⟨2, _⟩ => resOf m c
  Φ t := match t with
    | ⟨0, _⟩ => iprop((∃ r, prngReg c r) ∗ scratch m c ∗ entered m c)
    | ⟨_ + 1, _⟩ => iprop((∃ r, prngReg c r) ∗ scratch m c ∗ Pipeline.ownSems0 osem c ∗ semVal (barCell c) 0)
  q _ := fullShare
  owed t := match t with
    | ⟨0, _⟩ => O₀ c
    | ⟨_ + 1, _⟩ => 0

theorem share_full (c : Dev nD) (w : Fin cfg0.W) : (dats m 0 c).share w = fullShare := by unfold Dat.share; split <;> rfl

/-- A staging buffer at its contents. -/
abbrev staged (c : Dev nD) (b : Ref sig .tc) (X : b.ty.Contents (Elt F)) : sProp 𝕄 :=
  iprop(∃ f : Buf (Elt F) ((c : Thread nD τ).loc b), ⌜f = X⌝ ∗ (c : Thread nD τ).loc b ↦{fullShare} f)

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

theorem windows (Φ : Fin cfg0.W → sProp 𝕄) : bigSep Finset.univ Φ = iprop(Φ (0 : Fin 3) ∗ Φ (1 : Fin 3) ∗ Φ (2 : Fin 3)) := bigSep_W0 Φ

def bodyPre (c : Dev nD) : sProp 𝕄 :=
  iprop(((∃ r, prngReg c r) ∗ scratch m c ∗ entered m c) ∗ (dats m 0 c).owesAt () t0_0.castSucc
    ∗ (∃ d, staged c cc0_stg0_0 ((dats m 0 c).before (0 : Fin 3) t0_0 d))
    ∗ (∃ d, staged c cc0_stg1_0 ((dats m 0 c).before (1 : Fin 3) t0_0 d))
    ∗ (∃ d, staged c cc0_stg2_0 ((dats m 0 c).before (2 : Fin 3) t0_0 d)))
def bodyPost (c : Dev nD) : sProp 𝕄 :=
  iprop(((∃ r, prngReg c r) ∗ scratch m c ∗ Pipeline.ownSems0 osem c ∗ semVal (barCell c) 0) ∗ (dats m 0 c).owesAt () t0_0.succ
    ∗ staged c cc0_stg0_0 (ordOf m c) ∗ staged c cc0_stg1_0 (xOf m c) ∗ staged c cc0_stg2_0 (resOf m c))

set_option maxRecDepth 4000 in
/-- The body from what the region enters with to what it leaves. -/
theorem body_runs (c : Dev nD) (how : IsRow c (ordOf m c)) : bodyPre m c ⊢ runs c (prog (F := F)) fun _ => bodyPost m c := by
  unfold bodyPre scratch entered
  iintro ⟨⟨Hp, Hb, ⟨%K, #HI⟩, #HL, Ht, Hcr, Hf⟩, Ho, ⟨%d0, %g0, %hg0, H0⟩, ⟨%d1, %g1, %hg1, H1⟩, ⟨%d2, %g2, -, H2⟩⟩
  have h0 : g0 = ordOf m c := by rw [hg0]; unfold Dat.before; rw [if_pos (fetch0_0 t0_0)]; rfl
  subst h0
  have h1 : g1 = xOf m c := by rw [hg1]; unfold Dat.before; rw [if_pos (fetch0_1 t0_0)]; rfl
  subst h1
  unfold Dat.owesAt Pipeline.owesWithin
  icases Ho with ⟨%W, -, HO⟩
  rw [show (dats m 0 c).owed t0_0.castSucc = O₀ c from rfl]
  ihave Hb := (cut (wOf m) c) $$ Hb
  icases Hb with ⟨Hb, Hr⟩
  iapply (prog_wp (xOf m) (wOf m) K c how g2 W)
  isplitr; · iexact HI
  isplitr; · iexact HL
  isplitl [H0]; · iexact H0
  isplitl [H1]; · iexact H1
  isplitl [H2]; · iexact H2
  isplitl [Hb]; · iexact Hb
  isplitl [Ht]; · iexact Ht
  isplitl [Hcr]; · iexact Hcr
  isplitl [Hf]; · iexact Hf
  isplitl [HO]; · iexact HO
  iintro ⟨H0, H1, H2, Hb, ⟨%W', HO⟩, Hs⟩
  imod (cells_closed (xOf m) (wOf m) K c) $$ [Hs] with ⟨HB, Hs⟩
  · isplitr; · iexact HI
    iexact Hs
  imodintro
  ihave Hb := (join (wOf m) c) $$ [Hb Hr]
  · isplitl [Hb]; · iexact Hb
    iexact Hr
  unfold bodyPost scratch Dat.owesAt Pipeline.owesWithin
  rw [show (dats m 0 c).owed t0_0.succ = 0 from rfl]
  isplitl [Hp Hb HB Hs]
  · isplitl [Hp]; · iexact Hp
    isplitl [Hb]; · iexact Hb
    isplitl [Hs]; · iexact Hs
    iexact HB
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 65536 in
theorem body_obligation (how : ∀ c, IsRow c (ordOf m c)) (c : Dev nD) :
    BodyObligation (dats m 0 c) (defs₀ (F := F)) 𝒱₀ () Set.univ := fun t => by
  rw [fin_N0 t]
  rw [windows, windows]
  simp only [owns_staged]
  show bodyPre m c ⊢ runs c (cc0_body (F := F) ordM (Memref.isWhole_whole _) xM (Memref.isWhole_whole _) wM (Memref.isWhole_whole _) outM (Memref.isWhole_whole _)
      xbM (Memref.isWhole_whole _) commM (Memref.isWhole_whole _) wbufM (Memref.isWhole_whole _) cc0_scratch3 cc0_scratch4 cc0_scratch5) fun _ => bodyPost m c
  rw [body_eq]
  exact body_runs m c (how c)

end Cert.KernelIdeal.Steps

end
-- ==== Proof.Row.lean ====
/-
The order row that the body finds staged: the host operations leave device `c`'s row of the table.
-/
module

public import proofs.«01_k».proof.Proof.Body
public import Idealize.ShloMosaic.Lib.StableHlo.RunRead
public import Idealize.ShloMosaic.Lib.DynamicIndex

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open Idealize.ShloMosaic.StableHlo

variable {F : FTy → Type} [FloatOps F]
variable (m : (ℓ : Loc nD τ sig) → Buf (Elt F) ℓ)

theorem row_fits (c : Dev nD) : S16x16.Slices ![c.val, 0] S1x16 := by revert c; decide +kernel

/-- Position `i` of a row. -/
def at16 (i : Fin 16) : S16.Idx := fun a => ⟨i.val, by fin_cases a; exact i.isLt⟩

/-- The table's row `c`, entry by entry. -/
theorem table_row : ∀ (c : Dev nD) (i : Fin 16),
    shapeCast S16 (extractStridedSlice S1x16 ![c.val, 0] (fun i => lit0 (S16x16.rowMajor i)) (row_fits c)) shapeCasts_S1x16_S16 (at16 i)
      = ordW c i := by decide +kernel

/-- The host operations leave row `c` of the table. -/
theorem row_after (c : Dev nD) :
    V1 m c main_v12 = (shapeCast S16 (extractStridedSlice S1x16 ![c.val, 0] (fun i => lit0 (S16x16.rowMajor i)) (row_fits c)) shapeCasts_S1x16_S16
      : S16.Idx → BitVec 32) := by
  show StableHlo.after (hostOps0 c) (V0 m c) (Proc.devRef .tc main_v12) = _
  unfold hostOps0
  after_reads_simp
  rw [Host.dynamicSlice_eq_extractStridedSlice _ _ _ ![c.val, 0] _ (row_fits c) fun k => by
    fin_cases k
    · simp only [Matrix.cons_val_zero, Fin.zero_eta]
      after_reads_simp
      fin_cases c <;> rfl
    · simp only [Matrix.cons_val_one, Fin.mk_one, Matrix.cons_val_fin_one]
      after_reads_simp
      rfl]
  rfl

/-- A window over a whole array stages the array. -/
theorem ordOf_eq (c : Dev nD) : ordOf m c = V1 m c main_v12 :=
  Memref.read_access_unit_zero (Elt F) main_v12 (funext fun a => Nat.zero_mul _) _ _
theorem xOf_eq (c : Dev nD) : xOf m c = m ((c : Thread nD τ).loc main_arg0) :=
  (Memref.read_access_unit_zero (Elt F) main_arg0 (funext fun a => Nat.zero_mul _) _ _).trans (V1_of m c main_arg0 (by decide))
theorem wOf_eq (c : Dev nD) : wOf m c = m ((c : Thread nD τ).loc main_arg1) := V1_of m c main_arg1 (by decide)

/-- The row that is staged is device `c`'s. -/
theorem row_staged (c : Dev nD) : IsRow c (ordOf m c) := by
  intro i x
  rw [ordOf_eq, row_after, ← ordW_eq, ← table_row, View.read_apply]
  refine (cast_eq _ _).trans (congrArg _ (funext fun a => Fin.ext ?_))
  fin_cases a
  have : (x 0).val < 1 := (x 0).isLt
  show i.val + 1 * (x 0).val = i.val
  omega

end Cert.KernelIdeal.Steps

end
-- ==== Proof.Deal.lean ====
/-
What the launch hands to each device: the tokens of the duties that it pays, and the credits for what the other devices owe
to its cells.
-/
module

public import proofs.«01_k».proof.Proof.Row

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### Tokens -/

/-- The duties that a device pays: to the barriers of the devices, by its sends, to the cells that its blocks are counted on,
and by its copies of weight rows. The two that would be to itself are in no round. -/
abbrev Due : Type := (Dev nD ⊕ Fin 15) ⊕ Dev nD ⊕ Fin 16

/-- Its cell, its round, and its name. -/
def dueAt (c : Dev nD) : Due → GSem nD τ sig × ℕ × Dev nD
  | .inl (.inl d) => (barCell d, 0, c)
  | .inl (.inr i) => (sendCell c i, 0, 0)
  | .inr (.inl d) => (recvCell d c, 0, c)
  | .inr (.inr n) => (wCell c (slot n.val), n.val / 2, 0)

theorem slot_turn : ∀ n n' : Fin 16, slot n.val = slot n'.val → n.val / 2 = n'.val / 2 → n = n' := by decide +kernel

def dueKind (c : Dev nD) : Due → Kind
  | .inl (.inl _) => .bar
  | .inl (.inr i) => .send i
  | .inr (.inl _) => .recv c
  | .inr (.inr n) => .w (slot n.val)

theorem dueAt_inj (a b : Dev nD × Due) (h : dueAt a.1 a.2 = dueAt b.1 b.2) : a = b := by
  obtain ⟨c, k⟩ := a; obtain ⟨c', k'⟩ := b
  have hk : kind (dueAt c k).1.2 = kind (dueAt c' k').1.2 := congrArg (fun t => kind t.1.2) h
  have hc : (dueAt c k).1.1.1 = (dueAt c' k').1.1.1 := congrArg (fun t => t.1.1.1) h
  have hr : (dueAt c k).2.1 = (dueAt c' k').2.1 := congrArg (fun t => t.2.1) h
  have hd : (dueAt c k).2.2 = (dueAt c' k').2.2 := congrArg (fun t => t.2.2) h
  clear h
  have e (c : Dev nD) (k : Due) : kind (dueAt c k).1.2 = dueKind c k := by
    rcases k with (d | i) | d | n
    · exact kind_bar
    · exact kind_send i
    · exact kind_recv c
    · exact kind_w _
  rw [e, e] at hk
  rcases k with (d | i) | d | n <;> rcases k' with (d' | i') | d' | n' <;> first | (cases hk; done) | skip
  · have h1 : d = d' := hc
    have h2 : c = c' := hd
    rw [h1, h2]
  · have h1 : c = c' := hc
    have h2 : i = i' := by injection hk
    rw [h1, h2]
  · have h1 : d = d' := hc
    have h2 : c = c' := hd
    rw [h1, h2]
  · have h1 : c = c' := hc
    have h2 : n = n' := slot_turn n n' (by injection hk) hr
    rw [h1, h2]

def dueEmb : Dev nD × Due ↪ GSem nD τ sig × ℕ × Dev nD := ⟨fun a => dueAt a.1 a.2, dueAt_inj⟩
def dues : Finset (GSem nD τ sig × ℕ × Dev nD) := Finset.univ.map dueEmb

theorem toks_dealt :
    bigSep dues (fun x => (dutyTok ER x.1 x.2.1 x.2.2 : sProp 𝕄)) ⊢ bigSep Finset.univ fun c : Dev nD => (myToks c : sProp 𝕄) := by
  unfold dues; rw [bigSep_map, bigSep_univ_prod]
  refine bigSep_mono fun c _ => ?_
  rw [bigSep_univ_sum, bigSep_univ_sum, bigSep_univ_sum]
  unfold myToks wTok
  refine (show iprop(((bigSep Finset.univ fun d : Dev nD => dutyTok ER (barCell d) 0 c) ∗ bigSep Finset.univ fun i : Fin 15 => dutyTok ER (sendCell c i) 0 0)
    ∗ (bigSep Finset.univ fun d : Dev nD => dutyTok ER (recvCell d c) 0 c) ∗ bigSep Finset.univ fun n : Fin 16 => dutyTok ER (wCell c (slot n.val)) (n.val / 2) 0)
    ⊢ (_ : sProp 𝕄) from ?_)
  iintro ⟨⟨Hb, Hs⟩, Hr, Hw⟩
  isplitl [Hb]
  · iapply (show (bigSep Finset.univ fun d : Dev nD => (dutyTok ER (barCell d) 0 c : sProp 𝕄)) ⊢ bigSep (Finset.univ.erase c) fun d => dutyTok ER (barCell d) 0 c
      from bigSep_subset (Finset.erase_subset _ _))
    iexact Hb
  isplitl [Hs]; · iexact Hs
  isplitl [Hr]
  · iapply (show (bigSep Finset.univ fun d : Dev nD => (dutyTok ER (recvCell d c) 0 c : sProp 𝕄)) ⊢ bigSep (Finset.univ.erase c) fun d => dutyTok ER (recvCell d c) 0 c
      from bigSep_subset (Finset.erase_subset _ _))
    iexact Hr
  iexact Hw

/-! ### Credits -/

theorem count_sig : ∀ d c : Dev nD, (ups.map fun i => if sigDev d i = c then 1 else 0).sum = if d = c then 0 else 1 := by decide +kernel
theorem count_send : ∀ d c : Dev nD, (downs.map fun i => if ord d i.succ = c then 1 else 0).sum = if d = c then 0 else 1 := by decide +kernel

theorem recv_ne_bar (c j c' : Dev nD) : recvCell c j ≠ barCell c' := fun h => osem_ne_bar (.inr (.inl j)) (congrArg Prod.snd h)
theorem recvCell_eq {c j c' j' : Dev nD} (h : recvCell c j = recvCell c' j') : c = c' ∧ j = j' :=
  ⟨congrArg (fun g : GSem nD τ sig => g.1.1) h, by
    have hk := congrArg (fun g : GSem nD τ sig => kind g.2) h
    simp only [kind_recv] at hk; injection hk⟩

theorem oweSig_bar (d c : Dev nD) (l : List (Fin 15)) :
    oweSig d l (barCell c) () = (l.map fun i => if sigDev d i = c then 1 else 0).sum := by
  induction l with
  | nil => rfl
  | cons i l ih =>
    rw [oweSig_cons, Pi.add_apply, Finsupp.add_apply, ih, List.map_cons, List.sum_cons, add_comm]
    congr 1
    by_cases h : sigDev d i = c
    · rw [if_pos h, h, tallyAt_apply, if_pos ⟨rfl, rfl⟩]
    · rw [if_neg h, tallyAt_ne_cell (fun e => h (congrArg (fun g : GSem nD τ sig => g.1.1) e).symm)]; rfl
theorem oweSig_recv (d c j : Dev nD) (l : List (Fin 15)) : oweSig d l (recvCell c j) () = 0 := by
  rcases Nat.eq_zero_or_pos (oweSig d l (recvCell c j) ()) with h | h
  · exact h
  · obtain ⟨i, hi⟩ := oweSig_at d l _ _ h; exact absurd hi (recv_ne_bar c j _)
theorem oweSend_bar (d c : Dev nD) (l : List (Fin 15)) : oweSend d l (barCell c) () = 0 := by
  rcases Nat.eq_zero_or_pos (oweSend d l (barCell c) ()) with h | h
  · exact h
  · obtain ⟨i, hi⟩ := oweSend_at d l _ _ h; exact absurd hi.symm (recv_ne_bar _ _ c)
theorem oweSend_recv (d c j : Dev nD) (l : List (Fin 15)) :
    oweSend d l (recvCell c j) () = if d = j then (l.map fun i => if ord d i.succ = c then 1 else 0).sum * N else 0 := by
  induction l with
  | nil => rw [List.map_nil, List.sum_nil, Nat.zero_mul, ite_self]; rfl
  | cons i l ih =>
    rw [oweSend_cons, Pi.add_apply, Finsupp.add_apply, ih, List.map_cons, List.sum_cons]
    by_cases hj : d = j
    · subst hj
      rw [if_pos rfl, if_pos rfl, Nat.add_mul, add_comm]
      congr 1
      by_cases h : ord d i.succ = c
      · rw [if_pos h, h, tallyAt_apply, if_pos ⟨rfl, rfl⟩, Nat.one_mul]
      · rw [if_neg h, tallyAt_ne_cell (fun e => h (recvCell_eq e).1.symm), Nat.zero_mul]; rfl
    · rw [if_neg hj, if_neg hj, tallyAt_ne_cell (fun e => hj (recvCell_eq e).2.symm)]; rfl

theorem owed_bar (d c : Dev nD) : O₀ d (barCell c) () = if d = c then 0 else 1 := by
  unfold O₀
  rw [Pi.add_apply, Finsupp.add_apply, oweSend_bar, oweSig_bar, count_sig, Nat.zero_add]
theorem owed_recv (d c j : Dev nD) (h : j ≠ c) : O₀ d (recvCell c j) () = if d = j then N else 0 := by
  unfold O₀
  rw [Pi.add_apply, Finsupp.add_apply, oweSig_recv, oweSend_recv, count_send, Nat.add_zero]
  by_cases hj : d = j
  · subst hj; rw [if_pos rfl, if_pos rfl, if_neg h, Nat.one_mul]
  · rw [if_neg hj, if_neg hj]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel
theorem launch_recv (c j : Dev nD) (h : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j h,
    Finset.sum_ite_eq' Finset.univ j fun _ => N, if_pos (Finset.mem_univ _)]

def recvEmb : Dev nD ↪ SemLoc sig := ⟨fun j => osem (.inr (.inl j)), fun a b h => by have := osem_inj h; injection this with h1; injection h1⟩

theorem creds_dealt (c : Dev nD) : (Pipeline.launchCred O₀ c : sProp 𝕄) ⊢ myCreds c := by
  unfold Pipeline.launchCred myCreds
  rw [bigSep_univ_at _ (SemLoc.reg barS.sem), launch_bar]
  refine sep_mono_right ?_
  refine (bigSep_subset (t := (Finset.univ.erase c).map recvEmb) fun sm hs => ?_).trans ?_
  · obtain ⟨j, -, rfl⟩ := Finset.mem_map.mp hs
    exact Finset.mem_erase.mpr ⟨osem_ne_bar (.inr (.inl j)), Finset.mem_univ _⟩
  · rw [bigSep_map]
    exact bigSep_mono fun j hj => Entails.of_eq (congrArg cred (launch_recv c j (Finset.ne_of_mem_erase hj)))

end Cert.KernelIdeal.Steps

end
-- ==== Proof.Run.lean ====
/-
The run of the whole program, at any instance of the floats: from any memory and zero counters every execution ends, the
arguments stay, every device's result is its sixteen products added up, and every counter is zero again.
-/
module

public import proofs.«01_k».proof.Proof.Deal

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ UU ℕ

variable (m : (ℓ : Loc nD τ sig) → Buf (Elt F) ℓ)

/-! ### The region -/

/-- The buffers after the region. -/
def left (c : Dev nD) : Valuation τ sig (Elt F) := Function.update (V1 m c) (Proc.devRef .tc main_v13) (resOf m c)

theorem left_of (c : Dev nD) (r : DevRef τ sig) (h : r ≠ Proc.devRef .tc main_v13) : left m c r = V1 m c r := by
  unfold left; rw [Function.update_of_ne h]
theorem left_res (c : Dev nD) : left m c (Proc.devRef .tc main_v13) = resOf m c := by unfold left; rw [Function.update_self]

/-- The weights, which the body copies from by itself. -/
abbrev weights : Finset (DevRef τ sig) := {Proc.devRef .tc main_arg1}
/-- The buffers that no window is over. -/
abbrev others : Finset (DevRef τ sig) := Pipeline.ucRefs τ sig \ Pipeline.arrRefs (τ := τ) spec0

theorem arr_sub : Pipeline.arrRefs (τ := τ) spec0 ⊆ Pipeline.ucRefs τ sig := by decide +kernel
theorem weights_sub : weights ⊆ others := by decide +kernel
theorem res_arr : Proc.devRef .tc main_v13 ∈ Pipeline.arrRefs (τ := τ) spec0 := by decide +kernel

/-- What the launch deals to device `c` of the protocol: every cell of its own still to be opened. -/
def dealt (c : Dev nD) : sProp 𝕄 :=
  iprop((∃ K, invs (xOf m) (wOf m) K ∗ atPos ER (barCell c) 0 ∅ 0 ∗ bigSep Finset.univ fun k : OwnK => openTok ER (cellAt c k))
    ∗ myToks c ∗ myCreds c)

theorem opens (c : Dev nD) : iprop(dealt m c ∗ Pipeline.ownSems0 osem c ∗ levAts L lv) ⊢ (|={Set.univ}=> entered m c : sProp 𝕄) := by
  unfold dealt entered
  iintro ⟨⟨⟨%K, #HI, Hat, Ho⟩, Ht, Hc⟩, Hs, #HL⟩
  imod (cells_opened (xOf m) (wOf m) K c) $$ [Hat Ho Hs] with Hf
  · isplitr; · iexact HI
    isplitl [Hat]; · iexact Hat
    isplitl [Ho]; · iexact Ho
    iexact Hs
  imodintro
  isplitr; · iexists K; iexact HI
  isplitr; · iexact HL
  isplitl [Ht]; · iexact Ht
  isplitl [Hc]; · iexact Hc
  iexact Hf

theorem held_weights (c : Dev nD) (V : Valuation τ sig (Elt F)) (h : V (Proc.devRef .tc main_arg1) = wOf m c) :
    (StableHlo.held (c.tc : Thread nD τ) weights V : sProp 𝕄) = heldW (wOf m) c := by
  unfold StableHlo.held weights heldW
  rw [bigSep_singleton, h]

theorem enters (c : Dev nD) :
    iprop(Pipeline.scopedRest (Pipeline.pin (pcfgs (F := F)) adm 0).spec c ∗ (∃ r, prngReg c r) ∗ StableHlo.held (c.tc : Thread nD τ) weights (V1 m c) ∗ entered m c)
      ⊢ (dats m 0 c).Φ 0 := by
  rw [show (dats m 0 c).Φ 0 = iprop((∃ r, prngReg c r) ∗ scratch m c ∗ entered m c) from rfl, held_weights m c (V1 m c) rfl]
  rw [show (Pipeline.scopedRest (Pipeline.pin (pcfgs (F := F)) adm 0).spec c : sProp 𝕄) = iprop(held0 c ∗ held1 c ∗ held2 c) from scopedRest0_eq c]
  unfold scratch
  iintro ⟨⟨H0, H1, H2⟩, Hp, Hw, He⟩
  isplitl [Hp]; · iexact Hp
  isplitr [He]
  · isplitl [H0]; · iexact H0
    isplitl [H1]; · iexact H1
    isplitl [H2] <;> iassumption
  iexact He

theorem leaves (c : Dev nD) :
    (dats m 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) weights (left m c)
        ∗ Pipeline.ownSems0 osem c ∗ semVal (barCell c) 0) := by
  rw [show (dats m 0 c).Φ (Fin.last _) = iprop((∃ r, prngReg c r) ∗ scratch m c ∗ Pipeline.ownSems0 osem c ∗ semVal (barCell c) 0) from rfl,
    held_weights m c (left m c) (left_of m c _ (by decide +kernel))]
  rw [show (Pipeline.scopedRest (Pipeline.pin (pcfgs (F := F)) adm 0).spec c : sProp 𝕄) = iprop(held0 c ∗ held1 c ∗ held2 c) from scopedRest0_eq c]
  unfold scratch
  iintro ⟨Hp, ⟨H0, H1, H2, Hw⟩, Hs, Hb⟩
  isplitl [H0 H1 H2]
  · isplitl [H0]; · iexact H0
    isplitl [H1] <;> iassumption
  isplitl [Hp]; · iexact Hp
  isplitl [Hw]; · iexact Hw
  isplitl [Hs]; · iexact Hs
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owned : Pipeline.OwnSemFacts spec0 osem := by decide +kernel

/-- The staging cells are below everything that is owed. -/
theorem below : Pipeline.LevelCutOwed (pcfgs (F := F)) adm (dats m) () L lv 0 fun _ => 0 where
  hι c w s := by rw [L_tc]; exact Finset.mem_singleton_self _
  hιb c w s := by
    revert w s
    have : ∀ (w : Fin 3) (s : Fin (spec0 w).nbuf), (match kind (SemLoc.dma ((spec0 w).sem s)) with | .bar => 1 | .recv _ => 2 | _ => 0) ≤ 0 := by decide +kernel
    exact this
  hD c t g i h := by
    revert h
    rcases t with ⟨_ | t, ht⟩
    · intro h; exact O₀_at c g i h
    · intro h; exact absurd h (Nat.lt_irrefl 0)

theorem array_in (c : Dev nD) (w : Fin 3) : (dats m 0 c).arrAt w 0 = V1 m c (Proc.devRef .tc (Pipeline.arrRef spec0 w)) := rfl

theorem array_out (c : Dev nD) (w : Fin 3) :
    (dats m 0 c).arrAt w grid0.N = left m c (Proc.devRef .tc (Pipeline.arrRef spec0 w)) := by
  match w with
  | 0 => exact ((dats m 0 c).arrAt_in (0 : Fin 3) rfl _).trans (left_of m c (Proc.devRef .tc main_v12) (by decide +kernel)).symm
  | 1 => exact ((dats m 0 c).arrAt_in (1 : Fin 3) rfl _).trans (left_of m c (Proc.devRef .tc main_arg0) (by decide +kernel)).symm
  | 2 => exact ((dats m 0 c).arrAt_eq_of_after_last (2 : Fin 3) t0_0 (by decide +kernel) (resOf m c) fun _ => rfl).trans (left_res m c).symm

set_option backward.isDefEq.respectTransparency.types false in
def region : RegionSeg (pcfgs (F := F)) adm (dats m) () defs₀ 𝒱₀ L lv 0 :=
  RegionSeg.ofTalk (pcfgs (F := F)) adm (dats m) () defs₀ 𝒱₀ L lv 0 osem owned
    weights others weights_sub kit rfl (fun c => (body_obligation m (row_staged m) c).loose)
    (fun _ => 0) O₀ (fun c => (zero_add (O₀ c)).symm) (fun _ => rfl) (fun _ => rfl) (share_full m)
    (V1 m) (left m) (fun c b hb => left_of m c b fun e => (Finset.mem_sdiff.mp (Finset.mem_sdiff.mp hb).1).2 (e ▸ res_arr))
    (dealt m) (fun c => semVal (barCell c) 0) (entered m) (fun c => semVal (barCell c) 0) (opens m) (enters m) (leaves m)
    (fun c => by iintro H; imodintro; iexact H)
    (fun _ => 0) (below m) (fun _ => iprop(emp)) (array_in m) (array_out m)

/-! ### Between the host operations and the region -/

/-- What rides along the host operations. -/
def along (c : Dev nD) : sProp 𝕄 := iprop(dealt m c ∗ (∃ r, prngReg c r) ∗ ∃ W, owes (c : Thread nD τ) (O₀ c) W)
/-- What is held at the end. -/
abbrev kept (c : Dev nD) : sProp 𝕄 := iprop(StableHlo.held (c : Thread nD τ) (Pipeline.ucRefs τ sig) (left m c) ∗ semVal (barCell c) 0)

theorem held_cut (c : Dev nD) (V : Valuation τ sig (Elt F)) :
    (StableHlo.held (c.tc : Thread nD τ) (Pipeline.ucRefs τ sig) V : sProp 𝕄)
      = iprop(StableHlo.held (c.tc : Thread nD τ) (Pipeline.arrRefs (τ := τ) spec0) V ∗ StableHlo.held (c.tc : Thread nD τ) others V) :=
  StableHlo.held_sub_split (c.tc : Thread nD τ) arr_sub V

theorem region_pre (c : Dev nD) :
    iprop(StableHlo.held (c : Thread nD τ) (Pipeline.ucRefs τ sig) (V1 m c) ∗ along m c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ dealt m c ∗ ∃ Wd, owes (c : Thread nD τ) (0 + O₀ c) Wd)
  rw [zero_add, held_cut]
  unfold along
  iintro ⟨⟨Ha, Ho⟩, Hd, Hp, HO⟩
  isplitl [Ha]; · iexact Ha
  isplitl [Hp]; · iexact Hp
  isplitl [Ho]
  · isplitl [Ho]; · iexact Ho
    iempintro
  isplitl [Hd]; · iexact Hd
  iexact HO

theorem region_post (c : Dev nD) :
    (region m).post c ⊢ iprop(kept m c ∗ ∃ W, owes (c.tc : Thread nD τ) (0 : CellTallies nD τ sig Unit) W) := by
  show iprop(StableHlo.held (c.tc : Thread nD τ) (Pipeline.arrRefs (τ := τ) spec0) (left m c) ∗ (∃ r, prngReg c r)
    ∗ (StableHlo.held (c.tc : Thread nD τ) others (left m c) ∗ emp) ∗ semVal (barCell c) 0 ∗ ∃ Wd, owes (c : Thread nD τ) (0 : CellTallies nD τ sig Unit) Wd) ⊢ _
  unfold kept
  rw [held_cut]
  iintro ⟨Ha, -, ⟨Ho, -⟩, Hb, HO⟩
  isplitr [HO]
  · isplitl [Ha Ho]
    · isplitl [Ha]; · iexact Ha
      iexact Ho
    iexact Hb
  iexact HO

/-! ### The launch -/

theorem cells_apart : Disjoint barCells ownCells := by
  rw [Finset.disjoint_left]
  intro g h1 h2
  obtain ⟨c, -, rfl⟩ := Finset.mem_map.mp h1
  obtain ⟨ck, -, h⟩ := Finset.mem_map.mp h2
  exact osem_ne_bar ck.2 (congrArg Prod.snd h)

/-- The protocol's resources at the launch. -/
def start : sProp 𝕄 := BI.own (ER (launchOf barCells ownCells dues))
/-- All of them with the first device, until the cells are opened. -/
def parked (c : Dev nD) : sProp 𝕄 := if c = 0 then start else iprop(emp)

theorem parked_all : bigSep Finset.univ (parked (F := F)) = start := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

theorem unscoped_bar : (Finset.univ.filter fun sm : SemLoc sig => ¬ sm.isScoped .tc) = {SemLoc.reg barS.sem} := by decide +kernel
theorem bar_only : ∀ sm : SemLoc sig, sm.isScoped .tc = false → sm = .reg barS.sem := by
  intro sm h
  exact Finset.mem_singleton.mp (unscoped_bar ▸ Finset.mem_filter.mpr ⟨Finset.mem_univ _, by rw [h]; exact Bool.false_ne_true⟩)

theorem sems_bar (c : Dev nD) : (unscopedSems0 c : sProp 𝕄) = semVal (barCell c) 0 := by
  unfold unscopedSems0
  rw [unscoped_bar, bigSep_singleton]

def u₀ : UU :=
  (initOf (Pipeline.cells (Pipeline.pin (pcfgs (F := F)) adm) cellOf_inj) (Pipeline.launchToks (Pipeline.pin (pcfgs (F := F)) adm) cellOf_inj),
    launchOf barCells ownCells dues)

variable (g : Dev nD → PrngReg)

/-- What a device starts with besides the protocol's cells. -/
def beginning (c : Dev nD) : sProp 𝕄 :=
  iprop(StableHlo.held (c : Thread nD τ) (Pipeline.ucRefs τ sig) (V0 m c) ∗ myCreds c ∗ (∃ r, prngReg c r) ∗ ∃ W, owes (c : Thread nD τ) (O₀ c) W)
/-- And what of the cells it is given. -/
def given (c : Dev nD) : sProp 𝕄 :=
  iprop(atPos ER (barCell c) 0 ∅ 0 ∗ (bigSep Finset.univ fun k : OwnK => openTok ER (cellAt c k)) ∗ myToks c)

theorem begins (c : Dev nD) :
    iprop(unscopedBufs c (fun b => m ((c.tc : Thread nD τ).loc b)) ∗ unscopedSems0 c
        ∗ owes (c.tc : Thread nD τ) (O₀ c) ∅ ∗ Pipeline.launchCred O₀ c ∗ prngReg c (g c) ∗ parked c)
      ⊢ (iprop(beginning m c ∗ semVal (barCell c) 0 ∗ parked c) : sProp 𝕄) := by
  rw [show unscopedBufs c (fun b => m ((c : Thread nD τ).loc b)) = StableHlo.held (c : Thread nD τ) (Pipeline.ucRefs τ sig) (V0 m c)
    from Pipeline.unscopedBufs_held c (V0 m c), sems_bar]
  unfold beginning
  iintro ⟨Hh, Hs, HO, Hc, Hp, Hg⟩
  ihave Hc := (creds_dealt (F := F) c) $$ Hc
  isplitr [Hs Hg]
  · isplitl [Hh]; · iexact Hh
    isplitl [Hc]; · iexact Hc
    isplitl [Hp]; · iexists (g c); iexact Hp
    iexists ∅; iexact HO
  isplitl [Hs] <;> iassumption

theorem deals (K : GSem nD τ sig → ℕ) (c : Dev nD) :
    iprop(invs (xOf m) (wOf m) K ∗ (given c ∗ beginning m c))
      ⊢ iprop(StableHlo.held (c : Thread nD τ) (Pipeline.ucRefs τ sig) (V0 m c) ∗ along m c) := by
  unfold given beginning along dealt
  iintro ⟨#HI, ⟨Hat, Ho, Ht⟩, Hh, Hc, Hp, HO⟩
  isplitl [Hh]; · iexact Hh
  isplitr [Hp HO]
  · isplitl [Hat Ho]
    · iexists K
      isplitr; · iexact HI
      isplitl [Hat]; · iexact Hat
      iexact Ho
    isplitl [Ht]; · iexact Ht
    iexact Hc
  isplitl [Hp]; · iexact Hp
  iexact HO

theorem launches :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (g c) ∗ parked c)) ∗ levAts L lv)
      ⊢ (|={Set.univ}=> bigSep Finset.univ fun c : Dev nD => iprop(StableHlo.held (c : Thread nD τ) (Pipeline.ucRefs τ sig) (V0 m c) ∗ along m c) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ fun k : OwnK => (openTok ER (cellAt c k) : sProp 𝕄)) :=
    Entails.of_eq (by unfold ownCells; rw [bigSep_map, bigSep_univ_prod]; rfl)
  iintro ⟨H, -⟩
  ihave H := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (g c) ∗ parked c))
      ⊢ (bigSep Finset.univ fun c : Dev nD => iprop(beginning m c ∗ semVal (barCell c) 0 ∗ parked c) : sProp 𝕄) from bigSep_mono fun c _ => begins m g c) $$ H
  ihave H := Smoke.bigSep_unpair $$ H; icases H with ⟨HB, H⟩
  ihave H := Smoke.bigSep_unpair $$ H; icases H with ⟨Hv, HG⟩
  ihave Hu := (show bigSep Finset.univ (parked (F := F)) ⊢ BI.own (ER (launchOf barCells ownCells dues)) from Entails.of_eq (parked_all (F := F))) $$ HG
  imod (Rounds.fund_launch ER (Rd (xOf m) (wOf m)) cells_apart (fun g _ h => h) dues) $$ [Hv Hu] with ⟨%K, -, #HI, #Hr, Hat, Ho, Ht⟩
  · isplitl [Hv]
    · iapply hv $$ Hv
    · iexact Hu
  imodintro
  iapply (bigSep_with_persistent (R := invs (xOf m) (wOf m) K) (Φ := fun c => iprop(given c ∗ beginning m c)) fun c _ => deals m K c)
  isplitr
  · unfold invs
    isplitr; · iexact HI
    iexact Hr
  iapply Smoke.bigSep_pair
  isplitr [HB]
  · unfold given
    iapply Smoke.bigSep_pair; isplitl [Hat]; · iapply hat $$ Hat
    iapply Smoke.bigSep_pair; isplitl [Ho]; · iapply hop $$ Ho
    iapply (toks_dealt (F := F)) $$ Ht
  · iexact HB

/-! ### The run -/

/-- What the end shows of device `c`. -/
abbrev ended (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v13) = resOf m c) ∧ s.sem (barCell c) = 0

theorem left_arg0 (c : Dev nD) : left m c (Proc.devRef .tc main_arg0) = m ((c : Thread nD τ).loc main_arg0) :=
  (left_of m c _ (by decide +kernel)).trans (V1_of m c main_arg0 (by decide))
theorem left_arg1 (c : Dev nD) : left m c (Proc.devRef .tc main_arg1) = m ((c : Thread nD τ).loc main_arg1) :=
  (left_of m c _ (by decide +kernel)).trans (V1_of m c main_arg1 (by decide))

theorem ends (c : Dev nD) (s : Phys nD τ sig (Elt F)) :
    iprop(kept m c ∗ SI s) ⊢ (|={Set.univ}=> iprop(⌜ended m c s.mem⌝ ∗ SI s) : sProp 𝕄) := by
  unfold kept StableHlo.held
  iintro ⟨⟨Hh, Hb⟩, HSI⟩
  icombine HSI Hb gives %hb
  ihave H := (pointsTo_read_all (Pipeline.ucRefs τ sig) (fun b => ((c : Thread nD τ).1, b)) (left m c) s) $$ [Hh HSI]
  · isplitl [Hh] <;> iassumption
  icases H with ⟨%h, HSI⟩
  imodintro
  isplitr
  · ipureintro
    exact ⟨⟨(h (Proc.devRef .tc main_arg0) (Finset.mem_filter.mpr ⟨StableHlo.devRef_mem_tcRefs main_arg0, by decide⟩)).trans (left_arg0 m c),
      (h (Proc.devRef .tc main_arg1) (Finset.mem_filter.mpr ⟨StableHlo.devRef_mem_tcRefs main_arg1, by decide⟩)).trans (left_arg1 m c),
      (h (Proc.devRef .tc main_v13) (Finset.mem_filter.mpr ⟨StableHlo.devRef_mem_tcRefs main_v13, by decide⟩)).trans (left_res m c)⟩, by simpa using hb⟩
  · iexact HSI

set_option backward.isDefEq.respectTransparency.types false in
theorem run : θ_run (defs (F := F)) (onTc (τ := τ) (main (F := F))) ⟨m, fun _ => 0, g⟩ (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v13) = resOf m c) ∧ r.2.sem = fun _ => 0) :=
  Pipeline.θ_run_regions_kit_dev_sems (pcfgs (F := F)) adm (dats m) () cellOf_inj EP defs₀ 𝒱₀ L lv m g main
    (segs m 𝒱₀ L lv (fun _ => along m) () (dats m) (region m))
    (fun c Q => by
      rewrite [main_chain c, Seg.run_eq_chain,
        show (segs m 𝒱₀ L lv (fun _ => along m) () (dats m) (region m) c).map Seg.prog = [
          StableHlo.seq (hostOps0 c),
          Prog.lift (.customCall (Pipeline.entry 0) ()) ] from rfl]
      exact .rfl)
    (fun c => by simp only [segs, Seg.pipes_host, Seg.pipes_region, Seg.pipes_nil]; decide) O₀ L_of_ne parked u₀
    (by
      unfold u₀
      iintro Hu
      ihave H := (ownU_pair _ _) $$ Hu
      icases H with ⟨HP, HX⟩
      imodintro
      isplitl [HP]; · iexact HP
      rw [parked_all]; unfold start; iexact HX)
    (fun c => iprop(StableHlo.held (c : Thread nD τ) (Pipeline.ucRefs τ sig) (V0 m c) ∗ along m c)) (kept m)
    (fun c => ⟨.rfl, region_pre m c, region_post m c⟩)
    (launches m g) (ended m) (ends m)
    (fun s h hs => ⟨fun c => (h c).1, sem_eq_zero hs fun c sm hsm => by
      obtain rfl := bar_only sm hsm
      exact (h c).2⟩)

end Cert.KernelIdeal.Steps

end
-- ==== Proof.Product.lean ====
/-
The values at exact arithmetic: the sum of the sixteen products, whatever their order, is the product of the whole matrices
in the rows that the device holds of the result.
-/
module

public import proofs.«01_k».proof.Proof.Run
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.ValueLayout
public import Idealize.ShloMosaic.PureOps.Ideal

@[expose] public section

noncomputable section

namespace Cert.KernelIdeal.Steps

open Cert.KernelIdeal Cert.KernelIdeal.Gen
open Idealize.ShloMosaic hiding ix2 eq_ix2
open Idealize.ShloMosaic.TcCoe Idealize.ShloMosaic.ValueIdx
open Idealize.SL.Sem

variable (A : FVec Ideal ⟨2, ![8192, 8192]⟩ .bf16) (B : FVec Ideal ⟨2, ![8192, 4096]⟩ .bf16)

/-- Position `k` of block `p` among sixteen blocks of 512. -/
def place (p : Fin 16) (k : Fin 512) : Fin 8192 := ⟨p.val * 512 + k.val, by omega⟩

/-- The columns of block `p` in a row of the first matrix, against the same rows of the second. -/
def part (r : Fin 8192) (n : Fin 4096) (p : Fin 16) : EReal := ∑ k : Fin 512, A (ix2 r (place p k)) * B (ix2 (place p k) n)

/-- The sixteen parts are the whole product. -/
theorem part_sum (r : Fin 8192) (n : Fin 4096) : ∑ p : Fin 16, part A B r n p = ∑ q : Fin 8192, A (ix2 r q) * B (ix2 q n) := by
  unfold part
  rw [← Fintype.sum_prod_type' (f := fun (p : Fin 16) (k : Fin 512) => A (ix2 r (place p k)) * B (ix2 (place p k) n)),
    ← Equiv.sum_comp (finProdFinEquiv (m := 16) (n := 512)) fun q : Fin 8192 => A (ix2 r q) * B (ix2 q n)]
  refine Finset.sum_congr rfl fun x _ => ?_
  have : (finProdFinEquiv x : Fin 8192) = place x.1 x.2 := Fin.ext (by show x.2.val + 512 * x.1.val = x.1.val * 512 + x.2.val; omega)
  rw [this]

variable (X : Dev nD → cc0_stg1_0.ty.Contents (Elt Ideal)) (Wt : Dev nD → main_arg1.ty.Contents (Elt Ideal))

theorem blockX_at (hX : ∀ p, X p = Layout.block ⟨2, ![8192, 512]⟩ ⟨2, ![8192, 8192]⟩ 1 16 p A) (p c : Dev nD) (r k : Fin 512) :
    (blockX X p c : FVec Ideal ⟨2, ![512, 512]⟩ .bf16) (ix2 r k) = A (ix2 (place c r) (place p k)) := by
  unfold blockX k0_pay1
  rw [shapeCast_self, shapeCast_self, View.read_apply, hX]
  refine (cast_eq _ _).trans ?_
  rw [Layout.block_apply]
  refine congrArg A (funext fun a => Fin.ext ?_)
  have h0 : k0_off1 (wd c) 0 = c.val * 512 := congrFun (off1_wd c) 0
  have h1 : k0_off1 (wd c) 1 = 0 := congrFun (off1_wd c) 1
  match a with
  | 0 => show k0_off1 (wd c) 0 + 1 * r.val = c.val * 512 + r.val; omega
  | 1 => show p.val * 512 + (k0_off1 (wd c) 1 + 1 * k.val) = p.val * 512 + k.val; omega

theorem rowsW_at (hW : ∀ p, Wt p = B) (c p : Dev nD) (k : Fin 512) (n : Fin 4096) :
    (rowsW Wt c p : FVec Ideal ⟨2, ![512, 4096]⟩ .bf16) (ix2 k n) = B (ix2 (place p k) n) := by
  unfold rowsW
  rw [View.read_apply, hW]
  refine (cast_eq _ _).trans (congrArg B (funext fun a => Fin.ext ?_))
  have h0 : k0_off62 (wd p) 0 = p.val * 512 := congrFun (off62_wd p) 0
  have h1 : k0_off62 (wd p) 1 = 0 := congrFun (off62_wd p) 1
  match a with
  | 0 => show k0_off62 (wd p) 0 + 1 * k.val = p.val * 512 + k.val; omega
  | 1 => show k0_off62 (wd p) 1 + 1 * n.val = n.val; omega

theorem dot_plain : dot_S512x512_S512x4096_S512x4096_1_0_0_1_n_n = DotDims.plain 512 512 4096 := rfl

section

variable (hX : ∀ p, X p = Layout.block ⟨2, ![8192, 512]⟩ ⟨2, ![8192, 8192]⟩ 1 16 p A) (hW : ∀ p, Wt p = B)
include hX hW

theorem prodOf_at (c p : Dev nD) (r : Fin 512) (n : Fin 4096) :
    (prodOf (blockX X p c) (rowsW Wt c p) : FVec Ideal ⟨2, ![512, 4096]⟩ .f32) (ix2 r n) = part A B (place c r) n p := by
  unfold prodOf part
  rw [dot_plain]
  refine (Ideal.matmul_plain_apply _ _ _ _ r n).trans ?_
  rw [show (constant S512x4096 .f32 0x00000000#32 : FVec Ideal S512x4096 .f32) (ix2 r n) = 0 from Ideal.ofBits_zero_f32, zero_add]
  exact Finset.sum_congr rfl fun k _ => by rw [blockX_at A X hX p c r k, rowsW_at B Wt hW c p k n]

/-- The result after rounds `0 … t`: the parts of their devices. -/
theorem outAt_at (c : Dev nD) (r : Fin 512) (n : Fin 4096) : ∀ t : ℕ,
    (outAt X Wt c t : FVec Ideal ⟨2, ![512, 4096]⟩ .f32) (ix2 r n)
      = ∑ i ∈ Finset.range (t + 1), part A B (place c r) n (ord c ⟨i % 16, Nat.mod_lt _ (by decide)⟩)
  | 0 => by
    rw [Finset.sum_range_one, show (⟨0 % 16, Nat.mod_lt _ (by decide)⟩ : Fin 16) = 0 from rfl, ord_zero]
    exact prodOf_at A B X Wt hX hW c c r n
  | t + 1 => by
    rw [Finset.sum_range_succ, ← outAt_at c r n t, ← prodOf_at A B X Wt hX hW c _ r n]
    show (shapeCast S512x4096 (outAt X Wt c t) shapeCasts_S512x4096_S512x4096 : FVec Ideal ⟨2, ![512, 4096]⟩ .f32) (ix2 r n) + _ = _
    rw [shapeCast_self]

/-- After all sixteen: the whole product's entry. -/
theorem outAt_all (c : Dev nD) (r : Fin 512) (n : Fin 4096) :
    (outAt X Wt c 15 : FVec Ideal ⟨2, ![512, 4096]⟩ .f32) (ix2 r n) = ∑ q : Fin 8192, A (ix2 (place c r) q) * B (ix2 q n) := by
  rw [outAt_at A B X Wt hX hW c r n 15, ← part_sum A B (place c r) n, Finset.sum_range,
    ← Equiv.sum_comp (ordE c) fun p : Dev nD => part A B (place c r) n p]
  refine Finset.sum_congr rfl fun i _ => ?_
  rw [show (⟨i.val % 16, Nat.mod_lt _ (by decide)⟩ : Fin 16) = i from Fin.ext (Nat.mod_eq_of_lt i.isLt)]
  rfl

/-- What the reference leaves. -/
def whole : FVec Ideal ⟨2, ![8192, 4096]⟩ .f32 :=
  extf .f32 (truncf .bf16 (Host.dotGeneral (F := Ideal) (φ₁ := .bf16) (φ₂ := .bf16) Cert.ReferenceIdeal.dot_S8192x8192_S8192x4096_S8192x4096_1_0_0_1_n_n none A B)
    Cert.ReferenceIdeal.Gen.bitsLt_bf16_f32) Cert.ReferenceIdeal.Gen.bitsLt_bf16_f32

omit hX hW in
theorem whole_at (r : Fin 8192) (n : Fin 4096) : whole A B (ix2 r n) = ∑ q : Fin 8192, A (ix2 r q) * B (ix2 q n) :=
  StackMember.dotGeneral_plain_apply none A B r n

theorem outAt_block (c : Dev nD) :
    (outAt X Wt c 15 : FVec Ideal ⟨2, ![512, 4096]⟩ .f32) = Layout.block ⟨2, ![512, 4096]⟩ ⟨2, ![8192, 4096]⟩ 0 16 c (whole A B) := by
  funext j
  obtain ⟨r, n, rfl⟩ : ∃ (r : Fin 512) (n : Fin 4096), j = ix2 r n := ⟨j 0, j 1, eq_ix2 j⟩
  rw [Layout.block_apply]
  refine ((outAt_all A B X Wt hX hW c r n).trans (whole_at A B (place c r) n).symm).trans ?_
  refine congrArg (whole A B) (funext fun a => Fin.ext ?_)
  match a with
  | 0 => rfl
  | 1 => rfl

end

end Cert.KernelIdeal.Steps

end
-- ==== Proof.lean ====
/-
The five claims: the frames of the kernel, of its reading over the reals and of the reference, each with every
semaphore counter back at zero; that the two readings of the kernel are one program; and that over the reals the
kernel's results are the blocks of rows of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Twin
public import proofs.«01_k».proof.Proof.Run
public import proofs.«01_k».proof.Proof.Product
public import Idealize.ShloMosaic.Adequacy
public import Idealize.ShloMosaic.Init

@[expose] public section

noncomputable section

namespace Cert.Proof

open Idealize.ShloMosaic Idealize.SL.Sem Cert.Kernel

/-- The kernel's frame and its counters, whatever the floats are. -/
theorem quiescent_any (F : FTy → Type) [FloatOps F] : Quiescent F := fun m g _ =>
  (θ_run _ _ _).mono (fun _ h => ⟨fun c => ⟨(h.1 c).1, (h.1 c).2.1⟩, h.2⟩) (Cert.KernelIdeal.Steps.run m g)

/-- The reference's: it has no counters. -/
theorem quiescent_reference : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Device `c`'s result is its block of rows of the reference's. -/
theorem result_eq
    (m : (ℓ : Loc Cert.KernelIdeal.nD Cert.KernelIdeal.τ Cert.KernelIdeal.sig) → Buf (Elt Ideal) ℓ)
    (A : FVec Ideal ⟨2, ![8192, 8192]⟩ .bf16) (B : FVec Ideal ⟨2, ![8192, 4096]⟩ .bf16)
    (h : ∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c A
      ∧ m ((c.tc : Thread Cert.KernelIdeal.nD Cert.KernelIdeal.τ).loc Cert.KernelIdeal.main_arg1) = B)
    (c : Dev Cert.KernelIdeal.nD) :
    Cert.KernelIdeal.Steps.resOf m c = Layout.block ⟨2, ![512, 4096]⟩ ⟨2, ![8192, 4096]⟩ 0 16 c (Cert.KernelIdeal.Steps.whole A B) :=
  Cert.KernelIdeal.Steps.outAt_block A B _ _
    (fun p => (Cert.KernelIdeal.Steps.xOf_eq m p).trans (h p).1) (fun p => (Cert.KernelIdeal.Steps.wOf_eq m p).trans (h p).2) c

theorem algebraic : algebraic_KernelIdeal_ReferenceIdeal (hKernelIdeal := Cert.KernelIdeal.Gen.facts) (hReferenceIdeal := Cert.ReferenceIdeal.Gen.facts) :=
  fun m g m' g' _ h => ⟨Cert.KernelIdeal.Steps.whole _ _,
    (θ_run _ _ _).mono (fun _ q c => ⟨(q.1 c).2.2.trans (result_eq m _ _ h c), (q.1 c).1, (q.1 c).2.1⟩) (Cert.KernelIdeal.Steps.run m g),
    (θ_run _ _ _).mono (fun _ q => q 0) (Cert.ReferenceIdeal.Value.run m' g')⟩

theorem claim : Cert.Claim := ⟨Cert.Kernel.Gen.facts, Cert.KernelIdeal.Gen.facts, Cert.ReferenceIdeal.Gen.facts,
  quiescent_kernel_eq.mpr (quiescent_any Bits), quiescent_any Ideal, quiescent_reference, trivial, algebraic⟩

end Cert.Proof

end
